-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_bin" .f32 0x3FB6DB6E#32 ((16777216 / 11744051 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x3 : Shape := ⟨2, ![4096, 3]⟩
abbrev S4096 : Shape := ⟨1, ![4096]⟩
abbrev S32x32x28 : Shape := ⟨3, ![32, 32, 28]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S32x32x28 : S_.BroadcastsInDim S32x32x28 (![] : Fin 0 → Fin S32x32x28.rank)
  reducesTo_S32x32x28_S_d0_1_2 : S32x32x28.ReducesTo [0, 1, 2] S_
  transposes_S32x32x28_S32x32x28_1_0_2 : S32x32x28.Transposes [1, 0, 2] S32x32x28

variable [Facts]

def fn_part1 {F : FTy → Type} [FloatOps F] (main_v5 : IVec S_ 1) (main_v8 : IVec S_ 1) (main_v12 : IVec S_ 1) (main_v15 : IVec S_ 1) : IVec S_ 1 :=
  let main_v16 : IVec S_ 1 := andi main_v5 main_v8
  let main_v17 : IVec S_ 1 := andi main_v16 main_v12
  let main_v18 : IVec S_ 1 := andi main_v17 main_v15
  main_v18

def fn {F : FTy → Type} [FloatOps F] (main_arg0 : FVec F S4096x3 .f32) (main_arg1 : IVec S4096 32) (main_arg2 : IVec S4096 32) (main_arg3 : FVec F S32x32x28 .f32) : IVec S_ 1 :=
  let main_c : IVec S_ 32 := constantI S_ 32 4294967295#32
  let main_v0 : IVec S4096 32 := broadcastInDim S4096 ![] bcast_S_S4096 main_c
  let main_v1 : IVec S4096 1 := cmpi .sge main_arg1 main_v0
  let main_c_0 : IVec S_ 32 := constantI S_ 32 32#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg2 main_v6
  let main_c_3 : IVec S_ 1 := constantI S_ 1 1#1
  let main_v8 : IVec S_ 1 := (fun x v => Host.reduce IntOp.andi x v reducesTo_S4096_S_d0 h_S_) main_v7 main_c_3
  let main_v9 : FVec F S32x32x28 .f32 := Host.absf main_arg3
  let main_cst : FVec F S_ .f32 := constant S_ .f32 0x7F800000#32
  let main_v10 : FVec F S32x32x28 .f32 := broadcastInDim S32x32x28 ![] bcast_S_S32x32x28 main_cst
  let main_v11 : IVec S32x32x28 1 := cmpf .olt main_v9 main_v10
  let main_c_4 : IVec S_ 1 := constantI S_ 1 1#1
  let main_v12 : IVec S_ 1 := (fun x v => Host.reduce IntOp.andi x v reducesTo_S32x32x28_S_d0_1_2 h_S_) main_v11 main_c_4
  let main_v13 : FVec F S32x32x28 .f32 := (transpose S32x32x28 [1, 0, 2] · transposes_S32x32x28_S32x32x28_1_0_2) main_arg3
  let main_v14 : IVec S32x32x28 1 := cmpf .oeq main_arg3 main_v13
  let main_c_5 : IVec S_ 1 := constantI S_ 1 1#1
  let main_v15 : IVec S_ 1 := (fun x v => Host.reduce IntOp.andi x v reducesTo_S32x32x28_S_d0_1_2 h_S_) main_v14 main_c_5
  fn_part1 (F := F) main_v5 main_v8 main_v12 main_v15
-- ==== Kernel.lean ====
abbrev S4096x3 : Shape := ⟨2, ![4096, 3]⟩
abbrev S4096 : Shape := ⟨1, ![4096]⟩
abbrev S32x32x28 : Shape := ⟨3, ![32, 32, 28]⟩
abbrev S_ : Shape := ⟨0, ![]⟩
abbrev S4096x8 : Shape := ⟨2, ![4096, 8]⟩
abbrev S8x4096 : Shape := ⟨2, ![8, 4096]⟩
abbrev S4096x1 : Shape := ⟨2, ![4096, 1]⟩
abbrev S1x4096 : Shape := ⟨2, ![1, 4096]⟩
abbrev S32 : Shape := ⟨1, ![32]⟩
abbrev S1x32 : Shape := ⟨2, ![1, 32]⟩
abbrev S4096x32 : Shape := ⟨2, ![4096, 32]⟩
abbrev S32x4096 : Shape := ⟨2, ![32, 4096]⟩
abbrev S28x32x32 : Shape := ⟨3, ![28, 32, 32]⟩
abbrev S896x32 : Shape := ⟨2, ![896, 32]⟩
abbrev S2x36 : Shape := ⟨2, ![2, 36]⟩
abbrev S1x1 : Shape := ⟨2, ![1, 1]⟩
abbrev S512x8 : Shape := ⟨2, ![512, 8]⟩
abbrev S8x512 : Shape := ⟨2, ![8, 512]⟩
abbrev S512x1 : Shape := ⟨2, ![512, 1]⟩
abbrev S1x512 : Shape := ⟨2, ![1, 512]⟩
abbrev S32x512 : Shape := ⟨2, ![32, 512]⟩
abbrev S512x32 : Shape := ⟨2, ![512, 32]⟩
abbrev S896x512 : Shape := ⟨2, ![896, 512]⟩
abbrev S512x512 : Shape := ⟨2, ![512, 512]⟩
abbrev S1x896x32 : Shape := ⟨3, ![1, 896, 32]⟩
abbrev S1 : Shape := ⟨1, ![1]⟩
abbrev S1x1x1 : Shape := ⟨3, ![1, 1, 1]⟩

abbrev nBuf : Space → Nat
  | .hbm => 23
  | .vmem => 16
  | .smem => 1
  | _ => 0

abbrev bufTy : (tb : Table) → Fin (tcTables nBuf tb) → BufTy
  | .hbm, ⟨0, _⟩ => ⟨S4096x3, .f32⟩
  | .hbm, ⟨1, _⟩ => ⟨S4096, .i32⟩
  | .hbm, ⟨2, _⟩ => ⟨S4096, .i32⟩
  | .hbm, ⟨3, _⟩ => ⟨S32x32x28, .f32⟩
  | .hbm, ⟨4, _⟩ => ⟨S_, .i32⟩
  | .hbm, ⟨5, _⟩ => ⟨S_, .f32⟩
  | .hbm, ⟨6, _⟩ => ⟨S4096x8, .f32⟩
  | .hbm, ⟨7, _⟩ => ⟨S8x4096, .f32⟩
  | .hbm, ⟨8, _⟩ => ⟨S4096, .f32⟩
  | .hbm, ⟨9, _⟩ => ⟨S4096x1, .f32⟩
  | .hbm, ⟨10, _⟩ => ⟨S1x4096, .f32⟩
  | .hbm, ⟨11, _⟩ => ⟨S4096x1, .i32⟩
  | .hbm, ⟨12, _⟩ => ⟨S32, .i32⟩
  | .hbm, ⟨13, _⟩ => ⟨S1x32, .i32⟩
  | .hbm, ⟨14, _⟩ => ⟨S4096x32, .i32⟩
  | .hbm, ⟨15, _⟩ => ⟨S4096x32, .i32⟩
  | .hbm, ⟨16, _⟩ => ⟨S4096x32, .i1⟩
  | .hbm, ⟨17, _⟩ => ⟨S4096x32, .bf16⟩
  | .hbm, ⟨18, _⟩ => ⟨S32x4096, .bf16⟩
  | .hbm, ⟨19, _⟩ => ⟨S28x32x32, .f32⟩
  | .hbm, ⟨20, _⟩ => ⟨S896x32, .f32⟩
  | .hbm, ⟨21, _⟩ => ⟨S1x1, .f32⟩
  | .hbm, ⟨22, _⟩ => ⟨S_, .f32⟩
  | .local _ .vmem, ⟨0, _⟩ => ⟨S512x8, .f32⟩
  | .local _ .vmem, ⟨1, _⟩ => ⟨S512x8, .f32⟩
  | .local _ .vmem, ⟨2, _⟩ => ⟨S8x512, .f32⟩
  | .local _ .vmem, ⟨3, _⟩ => ⟨S8x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S32x512, .bf16⟩
  | .local _ .vmem, ⟨9, _⟩ => ⟨S32x512, .bf16⟩
  | .local _ .vmem, ⟨10, _⟩ => ⟨S512x32, .bf16⟩
  | .local _ .vmem, ⟨11, _⟩ => ⟨S512x32, .bf16⟩
  | .local _ .vmem, ⟨12, _⟩ => ⟨S896x32, .f32⟩
  | .local _ .vmem, ⟨13, _⟩ => ⟨S1x1, .f32⟩
  | .local _ .vmem, ⟨14, _⟩ => ⟨S896x32, .f32⟩
  | .local _ .vmem, ⟨15, _⟩ => ⟨S896x512, .f32⟩
  | .local _ .smem, ⟨0, _⟩ => ⟨S2x36, .i32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call1_v0 : Ref sig .tc := ⟨.hbm, 21, rfl⟩
abbrev main_v15 : Ref sig .tc := ⟨.hbm, 22, rfl⟩
abbrev main_call1_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨1, ![36], ![false]⟩

abbrev pre0 : Pipeline.Prefetch sig := ⟨1, ![main_call1_c.idx], fun | 0 => main_call1_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_cond2 (i : grid0.Coords) : BitVec 1 :=
  let arg0 : BitVec 32 := BitVec.ofNat 32 (i 0).val
  let c35_i32 : BitVec 32 := 35#32
  let v554 : BitVec 1 := Scalar.cmpi .eq arg0 c35_i32
  let v555 : BitVec 32 := Scalar.extui v554
  let c0_i32_287 : BitVec 32 := 0#32
  let v556 : BitVec 1 := Scalar.cmpi .ne v555 c0_i32_287
  v556

def cc0_transform_0 (k0_off1_inb : ∀ i : grid0.Coords, ∀ a, (k0_off1 i) a + S1x1.size a ≤ S2x36.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S2x36) ![0, v0.toNat] S1x1.size (k0_off1_inb i)) numel1_S1x1
  let c0_i32 : BitVec 32 := 0#32
  let c0_i32_0 : BitVec 32 := 0#32
  ![v1.toNat, c0_i32.toNat]

def cc0_transform_1 (k0_off2_inb : ∀ i : grid0.Coords, ∀ a, (k0_off2 i) a + S1x1.size a ≤ S2x36.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S2x36) ![1, v0.toNat] S1x1.size (k0_off2_inb i)) numel1_S1x1
  let c0_i32 : BitVec 32 := 0#32
  let c0_i32_0 : BitVec 32 := 0#32
  ![c0_i32.toNat, v1.toNat]

def cc0_transform_2 (k0_off1_inb : ∀ i : grid0.Coords, ∀ a, (k0_off1 i) a + S1x1.size a ≤ S2x36.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S2x36) ![0, v0.toNat] S1x1.size (k0_off1_inb i)) numel1_S1x1
  let c0_i32 : BitVec 32 := 0#32
  let c0_i32_0 : BitVec 32 := 0#32
  ![v1.toNat, c0_i32.toNat]

def cc0_transform_3 (k0_off2_inb : ∀ i : grid0.Coords, ∀ a, (k0_off2 i) a + S1x1.size a ≤ S2x36.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S2x36) ![1, v0.toNat] S1x1.size (k0_off2_inb i)) numel1_S1x1
  let c0_i32 : BitVec 32 := 0#32
  let c0_i32_0 : BitVec 32 := 0#32
  ![c0_i32.toNat, v1.toNat]

def cc0_transform_4 (k0_off1_inb : ∀ i : grid0.Coords, ∀ a, (k0_off1 i) a + S1x1.size a ≤ S2x36.size a) (numel1_S1x1 : S1x1.numel = 1) (pf : pre0.Contents (Elt F)) (i : grid0.Coords) : Fin 2 → Nat :=
  let arg0 : BitVec 32 := BitVec.ofNat 32 (i 0).val
  let c0 : Index := 0#32
  let v0 : Index := Scalar.indexCast arg0
  let v1 : BitVec 32 := pf.at 0 (Rect.unit (s := S2x36) ![0, v0.toNat] S1x1.size (k0_off1_inb i)) numel1_S1x1
  let c0_i32 : BitVec 32 := 0#32
  let c0_i32_0 : BitVec 32 := 0#32
  ![c0_i32.toNat, v1.toNat]

def cc0_transform_5 (k0_off2_inb : ∀ i : grid0.Coords, ∀ a, (k0_off2 i) a + S1x1.size a ≤ S2x36.size a) (numel1_S1x1 : S1x1.numel = 1) (pf : pre0.Contents (Elt F)) (i : grid0.Coords) : Fin 2 → Nat :=
  let arg0 : BitVec 32 := BitVec.ofNat 32 (i 0).val
  let c1 : Index := 1#32
  let v0 : Index := Scalar.indexCast arg0
  let v1 : BitVec 32 := pf.at 0 (Rect.unit (s := S2x36) ![1, v0.toNat] S1x1.size (k0_off2_inb i)) numel1_S1x1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S896x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_bin" => some ((16777216 / 11744051 : ℝ) : EReal)
  | _ => none
-- ==== ReferenceIdeal.lean ====
abbrev S4096x3 : Shape := ⟨2, ![4096, 3]⟩
abbrev S4096 : Shape := ⟨1, ![4096]⟩
abbrev S32x32x28 : Shape := ⟨3, ![32, 32, 28]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x1x3 : Shape := ⟨3, ![4096, 1, 3]⟩
abbrev S1x4096x3 : Shape := ⟨3, ![1, 4096, 3]⟩
abbrev S4096x4096x3 : Shape := ⟨3, ![4096, 4096, 3]⟩
abbrev S4096x4096x1 : Shape := ⟨3, ![4096, 4096, 1]⟩

abbrev nBuf : Space → Nat
  | .hbm => 141
  | .vmem => 0
  | .smem => 0
  | _ => 0

abbrev hbmTy0_0 (i : Nat) : BufTy := match i % 128 with
  | 0 => ⟨S4096x3, .f32⟩
  | 1 => ⟨S4096, .i32⟩
  | 2 => ⟨S4096, .i32⟩
  | 3 => ⟨S32x32x28, .f32⟩
  | 4 => ⟨S4096, .i32⟩
  | 5 => ⟨S4096x1, .i32⟩
  | 6 => ⟨S1x4096, .i32⟩
  | 7 => ⟨S4096x4096, .i32⟩
  | 8 => ⟨S4096x4096, .i32⟩
  | 9 => ⟨S4096x4096, .i1⟩
  | 10 => ⟨S4096x1, .i32⟩
  | 11 => ⟨S1x4096, .i32⟩
  | 12 => ⟨S4096x4096, .i32⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i1⟩
  | 19 => ⟨S4096x1, .i32⟩
  | 20 => ⟨S_, .i32⟩
  | 21 => ⟨S4096x1, .i32⟩
  | 22 => ⟨S4096x1, .i1⟩
  | 23 => ⟨S4096x4096, .i1⟩
  | 24 => ⟨S4096x4096, .i1⟩
  | 25 => ⟨S1x4096, .i32⟩
  | 26 => ⟨S_, .i32⟩
  | 27 => ⟨S1x4096, .i32⟩
  | 28 => ⟨S1x4096, .i1⟩
  | 29 => ⟨S4096x4096, .i1⟩
  | 30 => ⟨S4096x4096, .i1⟩
  | 31 => ⟨S4096x1x3, .f32⟩
  | 32 => ⟨S1x4096x3, .f32⟩
  | 33 => ⟨S4096x4096x3, .f32⟩
  | 34 => ⟨S4096x4096x3, .f32⟩
  | 35 => ⟨S4096x4096x3, .f32⟩
  | 36 => ⟨S4096x4096x3, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .f32⟩
  | 43 => ⟨S_, .f32⟩
  | 44 => ⟨S4096x4096, .f32⟩
  | 45 => ⟨S4096x4096, .f32⟩
  | 46 => ⟨S_, .f32⟩
  | 47 => ⟨S_, .f32⟩
  | 48 => ⟨S_, .f32⟩
  | 49 => ⟨S4096x4096, .f32⟩
  | 50 => ⟨S4096x4096, .f32⟩
  | 51 => ⟨S_, .f32⟩
  | 52 => ⟨S4096x4096, .f32⟩
  | 53 => ⟨S4096x4096, .f32⟩
  | 54 => ⟨S4096x4096, .f32⟩
  | 55 => ⟨S4096x4096, .i32⟩
  | 56 => ⟨S_, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S4096x4096, .f32⟩
  | 63 => ⟨S4096x4096, .f32⟩
  | 64 => ⟨S4096x1, .i32⟩
  | 65 => ⟨S1x4096, .i32⟩
  | 66 => ⟨S_, .i32⟩
  | 67 => ⟨S4096x1, .i32⟩
  | 68 => ⟨S4096x1, .i1⟩
  | 69 => ⟨S_, .i32⟩
  | 70 => ⟨S4096x1, .i32⟩
  | 71 => ⟨S4096x1, .i32⟩
  | 72 => ⟨S4096x1, .i32⟩
  | 73 => ⟨S_, .i32⟩
  | 74 => ⟨S1x4096, .i32⟩
  | 75 => ⟨S1x4096, .i1⟩
  | 76 => ⟨S_, .i32⟩
  | 77 => ⟨S1x4096, .i32⟩
  | 78 => ⟨S1x4096, .i32⟩
  | 79 => ⟨S1x4096, .i32⟩
  | 80 => ⟨S_, .i32⟩
  | 81 => ⟨S4096x4096, .i32⟩
  | 82 => ⟨S4096x4096, .i1⟩
  | 83 => ⟨S_, .i32⟩
  | 84 => ⟨S4096x4096, .i32⟩
  | 85 => ⟨S4096x4096, .i32⟩
  | 86 => ⟨S4096x4096, .i32⟩
  | 87 => ⟨S4096x4096, .i32⟩
  | 88 => ⟨S4096x4096, .i32⟩
  | 89 => ⟨S4096x4096x1, .i32⟩
  | 90 => ⟨S4096x4096x1, .i32⟩
  | 91 => ⟨S4096x4096x1, .i32⟩
  | 92 => ⟨S4096x4096x3, .i32⟩
  | 93 => ⟨S4096x4096, .f32⟩
  | 94 => ⟨S_, .i32⟩
  | 95 => ⟨S4096x1, .i32⟩
  | 96 => ⟨S4096x1, .i1⟩
  | 97 => ⟨S_, .i32⟩
  | 98 => ⟨S4096x1, .i32⟩
  | 99 => ⟨S4096x1, .i32⟩
  | 100 => ⟨S4096x1, .i32⟩
  | 101 => ⟨S_, .i32⟩
  | 102 => ⟨S1x4096, .i32⟩
  | 103 => ⟨S1x4096, .i1⟩
  | 104 => ⟨S_, .i32⟩
  | 105 => ⟨S1x4096, .i32⟩
  | 106 => ⟨S1x4096, .i32⟩
  | 107 => ⟨S1x4096, .i32⟩
  | 108 => ⟨S_, .i32⟩
  | 109 => ⟨S4096x4096, .i32⟩
  | 110 => ⟨S4096x4096, .i1⟩
  | 111 => ⟨S_, .i32⟩
  | 112 => ⟨S4096x4096, .i32⟩
  | 113 => ⟨S4096x4096, .i32⟩
  | 114 => ⟨S4096x4096, .i32⟩
  | 115 => ⟨S4096x4096, .i32⟩
  | 116 => ⟨S4096x4096, .i32⟩
  | 117 => ⟨S4096x4096x1, .i32⟩
  | 118 => ⟨S4096x4096x1, .i32⟩
  | 119 => ⟨S4096x4096x1, .i32⟩
  | 120 => ⟨S4096x4096x3, .i32⟩
  | 121 => ⟨S4096x4096, .f32⟩
  | 122 => ⟨S_, .f32⟩
  | 123 => ⟨S4096x4096, .f32⟩
  | 124 => ⟨S4096x4096, .f32⟩
  | 125 => ⟨S4096x4096, .f32⟩
  | 126 => ⟨S4096x4096, .f32⟩
  | 127 => ⟨S4096x4096, .f32⟩
  | _ => ⟨S4096x3, .f32⟩

abbrev hbmTy0_1 (i : Nat) : BufTy := match i % 128 with
  | 0 => ⟨S4096x4096, .f32⟩
  | 1 => ⟨S_, .f32⟩
  | 2 => ⟨S4096x4096, .f32⟩
  | 3 => ⟨S4096x4096, .i1⟩
  | 4 => ⟨S4096x4096, .f32⟩
  | 5 => ⟨S4096x4096, .f32⟩
  | 6 => ⟨S4096x4096, .f32⟩
  | 7 => ⟨S_, .f32⟩
  | 8 => ⟨S_, .f32⟩
  | 9 => ⟨S4096x4096, .f32⟩
  | 10 => ⟨S4096x4096, .f32⟩
  | 11 => ⟨S_, .f32⟩
  | 12 => ⟨S_, .f32⟩
  | _ => ⟨S4096x3, .f32⟩

abbrev hbmTy (i : Nat) : BufTy := match i / 128 with
  | 0 => hbmTy0_0 i
  | 1 => hbmTy0_1 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_7 : Ref sig .tc := ⟨.hbm, 66, rfl⟩
abbrev main_v45 : Ref sig .tc := ⟨.hbm, 67, rfl⟩
abbrev main_v46 : Ref sig .tc := ⟨.hbm, 68, rfl⟩
abbrev main_c_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_c_16 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_17 : Ref sig .tc := ⟨.hbm, 108, rfl⟩
abbrev main_v77 : Ref sig .tc := ⟨.hbm, 109, rfl⟩
abbrev main_v78 : Ref sig .tc := ⟨.hbm, 110, rfl⟩
abbrev main_c_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_21 : Ref sig .tc := ⟨.hbm, 135, rfl⟩
abbrev main_call2_v0 : Ref sig .tc := ⟨.hbm, 136, rfl⟩
abbrev main_call2_v1 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩

abbrev nD : Nat := 1
abbrev τ : Topo := Topo.v7x

variable {F : FTy → Type} [FloatOps F]
-- ==== Proof.RunIdeal.lean ====
/- The run of `KernelIdeal`, point by point: what each of the three kinds of grid point leaves in the output block and in the
   carried histogram, the invariant between points, and that the whole program runs, ends with every counter at zero and
   leaves its arguments as they were. -/
module

public import proofs.«01_k».proof.Proof.Gen.KernelIdeal.Frame.RunC
public import Idealize.ShloMosaic.Lib.Claim

@[expose] public section

-- the two sides of `outsAt0_A`, `_B`, `_C` name every staging buffer of the point
set_option maxHeartbeats 4000000
-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : cond0_0 i) (hc1 : ¬cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) : Vec F S1x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6 xt0).1)

/-- Case A's pieces for scratch `arg10`, which the kernel carries between points, cover it: 2 pieces of `S896x32` tiling it (Lib/Ring.lean `Piece.tiledL`). -/
theorem scover0_A_0 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : cond0_0 i) (hc1 : ¬cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (y : S896x32.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6 xt0).2.1 S896x32.size (by sl_kernel_rfl) y

/-- What case A leaves in scratch `arg10`: its pieces read back over junk. -/
def sout0_A_0 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : cond0_0 i) (hc1 : ¬cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) : Vec F S896x32 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6 xt0).2.1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : ¬cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) : Vec F S1x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xt0 xs0).1)

/-- Case B's pieces for scratch `arg10`, which the kernel carries between points, cover it: 1 piece of `S896x32` tiling it (Lib/Ring.lean `Piece.tiledL`). -/
theorem scover0_B_0 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : ¬cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) (y : S896x32.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xt0 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xt0 xs0).2.1 S896x32.size (by sl_kernel_rfl) y

/-- What case B leaves in scratch `arg10`: its pieces read back over junk. -/
def sout0_B_0 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : ¬cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) : Vec F S896x32 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xt0 xs0).2.1)

/-- Case C's pieces for output 7 tile its block (1 store of `S1x1`, checked by the kernel's evaluation: Lib/Ring.lean `Piece.tiledL`, linear in the pieces, through a loop's `@[irreducible]` trip theorem too), so they cover it. -/
theorem cover0_C_7 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) (y : S1x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xt0 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xt0 xs0).1 S1x1.size (by sl_kernel_rfl) y

/-- What case C leaves in output 7's staging buffer: its pieces read back over junk. -/
def out0_C_7 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) : Vec F S1x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xt0 xs0).1)

/-- Case C's pieces for scratch `arg10`, which the kernel carries between points, cover it: 1 piece of `S896x32` tiling it (Lib/Ring.lean `Piece.tiledL`). -/
theorem scover0_C_0 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) (y : S896x32.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xt0 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xt0 xs0).2.1 S896x32.size (by sl_kernel_rfl) y

/-- What case C leaves in scratch `arg10`: its pieces read back over junk. -/
def sout0_C_0 (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole) (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole) (hc0 : ¬cond0_0 i) (hc1 : cond0_1 i)
    (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32) : Vec F S896x32 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xt0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S1x1 .f32 × Vec F S896x32 .f32
  | 0, hn => (out0_A_7 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (tbl m 0))
  | n + 1, hn =>
    if h0 : (n + 1) % 36 = 0 then
      if h1 : (n + 1) % 36 = 35 then
        False.elim (by have hN : n + 1 < 36 := lt_of_lt_of_eq hn (show (cfgM m hO).N = 36 from N_0); omega)
      else
        (out0_A_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0))
    else
      if h1 : (n + 1) % 36 = 35 then
        (out0_C_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2)
      else
        (out0_B_7 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (tbl m 0) (outsAt0 hO c n (Nat.lt_of_succ_lt hn)).2)

/-- `outsAt0` at a point of case A: that case's contents. -/
theorem outsAt0_A (hO : Ok m) (c : Dev nD) (t : Fin (cfgM m hO).N) (h0 : t.val % 36 = 0) (h1 : ¬t.val % 36 = 35) :
    outsAt0 m hO c t.val t.isLt = (out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)) := by
  obtain ⟨n, hn⟩ := t
  cases n with
  | zero => exact rfl
  | succ n => exact (dif_pos h0).trans ((dif_neg h1).trans rfl)

/-- `outsAt0` at a point of case B: that case's contents, over what the point before left. -/
theorem outsAt0_B (hO : Ok m) (c : Dev nD) (t : Fin (cfgM m hO).N) (h0 : ¬t.val % 36 = 0) (h1 : ¬t.val % 36 = 35) :
    outsAt0 m hO c t.val t.isLt = (out0_B_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (hO : Ok m) (c : Dev nD) (t : Fin (cfgM m hO).N) (h0 : ¬t.val % 36 = 0) (h1 : t.val % 36 = 35) :
    outsAt0 m hO c t.val t.isLt = (out0_C_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2) ∗ (∃ d, owns (c : Thread nD τ) scM0_1 fullShare d)) ∗ (∃ r, prngReg c r)) ∗ Pipeline.ΦT pre0 (tbl m) c)

/-- What the invariant holds before the first grid point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2) ∗ (∃ d, owns (c : Thread nD τ) scM0_1 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2) ∗ (∃ d, owns (c : Thread nD τ) scM0_1 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- The block of the coordinates by columns after a grid point. -/
theorem after0_1 (hO : Ok m) (c : Dev nD) (t : Fin (cfgM m hO).N) : (dats m hO 0 c).after 1 t = iblk m hO c 1 t := by dsimp only [dats]; try rfl
/-- The block of the residue numbers by rows after a grid point. -/
theorem after0_2 (hO : Ok m) (c : Dev nD) (t : Fin (cfgM m hO).N) : (dats m hO 0 c).after 2 t = iblk m hO c 2 t := by dsimp only [dats]; try rfl
/-- The block of the residue numbers by columns after a grid point. -/
theorem after0_3 (hO : Ok m) (c : Dev nD) (t : Fin (cfgM m hO).N) : (dats m hO 0 c).after 3 t = iblk m hO c 3 t := by dsimp only [dats]; try rfl
/-- The block of the types of the rows after a grid point. -/
theorem after0_4 (hO : Ok m) (c : Dev nD) (t : Fin (cfgM m hO).N) : (dats m hO 0 c).after 4 t = iblk m hO c 4 t := by dsimp only [dats]; try rfl
/-- The block of the types of the columns after a grid point. -/
theorem after0_5 (hO : Ok m) (c : Dev nD) (t : Fin (cfgM m hO).N) : (dats m hO 0 c).after 5 t = iblk m hO c 5 t := by dsimp only [dats]; try rfl
/-- The block of the table of potentials after a grid point. -/
theorem after0_6 (hO : Ok m) (c : Dev nD) (t : Fin (cfgM m hO).N) : (dats m hO 0 c).after 6 t = iblk m hO c 6 t := by dsimp only [dats]; try rfl
/-- The block of the output after a grid point. -/
theorem after0_7 (hO : Ok m) (c : Dev nD) (t : Fin (cfgM m hO).N) : (dats m hO 0 c).after 7 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- The block of the coordinates by columns before a grid point. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- The block of the residue numbers by rows before a grid point. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- The block of the residue numbers by columns before a grid point. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The block of the types of the rows before a grid point. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- The block of the types of the columns before a grid point. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- The block of the table of potentials before a grid point. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 36 := lt_of_lt_of_eq t.isLt (show (cfgM m hO).N = 36 from N_0)
  by_cases h0 : t.val % 36 = 0
  · by_cases h1 : t.val % 36 = 35
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [Dat.leavesExact_idle (dats m hO 0 c) 7 t (idleAt0_7_A m hO t ((hcond0_0 t).mpr h0) (fun h => h1 ((hcond0_1 t).mp h))) (noFlush0_7_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HT0]; · iexact HT0
        iintro ⟨H0, H1, H2, H3, H4, H5, H6, H7, ⟨%es0, HS0⟩, ⟨%fT1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _)
              iexists _; unfold owns; iexists _; isplitr
              swap; · iexact HS1
              ipureintro; rfl
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · exfalso; have hN : t.val < 36 := lt_of_lt_of_eq t.isLt (show (cfgM m hO).N = 36 from N_0); omega
  · by_cases h1 : t.val % 36 = 35
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7_C m hO t (fun h => h0 ((hcond0_0 t).mp h)) ((hcond0_1 t).mpr h1)]; try rfl, after0_7]
      by_cases hz : t.val = 0
      · exfalso; have hN : t.val < 36 := lt_of_lt_of_eq t.isLt (show (cfgM m hO).N = 36 from N_0); omega
      · rw [PhiS_castSucc m hO c t, PhiS_pos m hO c _ _ hz, PhiT0_eq]
        rw [outsAt0_C m hO c t h0 h1]
        unfold out0_C_7 sout0_C_0; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        isplitl [HS1]; · iexact HS1
        isplitl [HT0]; · iexact HT0
        iintro ⟨H0, H1, H2, H3, H4, H5, H6, ⟨%e7, H7⟩, ⟨%es0, HS0⟩, ⟨%fT1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _)
              iexists _; unfold owns; iexists _; isplitr
              swap; · iexact HS1
              ipureintro; rfl
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [Dat.leavesExact_idle (dats m hO 0 c) 7 t (idleAt0_7_B m hO t (fun h => h0 ((hcond0_0 t).mp h)) (fun h => h1 ((hcond0_1 t).mp h))) (noFlush0_7_B m hO t (fun h => h0 ((hcond0_0 t).mp h)) (fun h => h1 ((hcond0_1 t).mp h)))]
      by_cases hz : t.val = 0
      · exfalso; have hN : t.val < 36 := lt_of_lt_of_eq t.isLt (show (cfgM m hO).N = 36 from N_0); omega
      · rw [PhiS_castSucc m hO c t, PhiS_pos m hO c _ _ hz, PhiT0_eq]
        rw [outsAt0_B m hO c t h0 h1]
        unfold sout0_B_0; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (tbl m 0) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HT0]; · iexact HT0
        iintro ⟨H0, H1, H2, H3, H4, H5, H6, H7, ⟨%es0, HS0⟩, ⟨%fT1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _)
              iexists _; unfold owns; iexists _; isplitr
              swap; · iexact HS1
              ipureintro; rfl
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 36 := N_0; omega)

/-! ## The run and the frame -/

-- `θ_run_frameP_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Run

end
-- ==== Proof.Table.lean ====
/- The prefetched table. The kernel finds the two block numbers of each grid point in a constant table the host writes
   before the launch: here the table's contents at launch are that constant, and with it every block the grid asks for
   lies inside its array. Once for the kernel and once for its idealization. -/
module

public import proofs.«01_k».proof.Proof.Run
public import proofs.«01_k».proof.Proof.RunIdeal
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.ShloMosaic.StableHlo

namespace Cert.Kernel.Table

open Cert.Kernel Cert.Kernel.Gen

variable (m : (ℓ : Loc nD τ sig) → Buf (Elt Bits) ℓ)

/-- The constant table, as the contents of the one prefetched buffer. -/
def pinned : pre0.Contents (Elt Bits) := fun
  | ⟨0, _⟩ => fun x => lit0 (S2x36.rowMajor x)
  | ⟨_ + 1, h⟩ => absurd h (by simp)

/-- At launch the prefetched buffer holds the constant table. -/
theorem tbl_eq : tbl m = pinned := by
  funext j
  match j with
  | ⟨0, _⟩ =>
    show V m 0 main_call1_c = _
    unfold V V0
    rfl

/-- Every block named by the constant table lies inside its array. -/
theorem ok_pinned : ok0 (F := Bits) pinned := by decide +kernel

/-- Every block named by the table at launch lies inside its array. -/
theorem ok : Ok m := by
  unfold Ok
  rw [tbl_eq]
  exact ok_pinned

end Cert.Kernel.Table

namespace Cert.KernelIdeal.Table

open Cert.KernelIdeal Cert.KernelIdeal.Gen

variable (m : (ℓ : Loc nD τ sig) → Buf (Elt Ideal) ℓ)

/-- The constant table, as the contents of the one prefetched buffer. -/
def pinned : pre0.Contents (Elt Ideal) := fun
  | ⟨0, _⟩ => fun x => lit0 (S2x36.rowMajor x)
  | ⟨_ + 1, h⟩ => absurd h (by simp)

/-- At launch the prefetched buffer holds the constant table. -/
theorem tbl_eq : tbl m = pinned := by
  funext j
  match j with
  | ⟨0, _⟩ =>
    show V m 0 main_call1_c = _
    unfold V V0
    rfl

/-- Every block named by the constant table lies inside its array. -/
theorem ok_pinned : ok0 (F := Ideal) pinned := by decide +kernel

/-- Every block named by the table at launch lies inside its array. -/
theorem ok : Ok m := by
  unfold Ok
  rw [tbl_eq]
  exact ok_pinned

end Cert.KernelIdeal.Table

end
-- ==== Proof.Slabs.lean ====
/- One grid point of the kernel, first half. For each of the 28 bins the kernel stores a slab of 32 rows (one row per
   residue type, one column per residue of the column block) into a buffer of 896 rows. Here the 28 stores are written as
   one family over the bin, and the buffer read back is the slab of the row's bin. -/
module

public import proofs.«01_k».proof.Proof.RunIdeal
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.KernelIdeal.Slabs

open Cert.KernelIdeal Cert.KernelIdeal.Gen

variable {F : FTy → Type} [FloatOps F] [Named F]

/-- The bf16 word of the whole number `b`, for the 28 bins. -/
def word (b : ℕ) : BitVec 16 :=
  [0x0000#16, 0x3F80#16, 0x4000#16, 0x4040#16, 0x4080#16, 0x40A0#16, 0x40C0#16, 0x40E0#16, 0x4100#16, 0x4110#16,
   0x4120#16, 0x4130#16, 0x4140#16, 0x4150#16, 0x4160#16, 0x4170#16, 0x4180#16, 0x4188#16, 0x4190#16, 0x4198#16,
   0x41A0#16, 0x41A8#16, 0x41B0#16, 0x41B8#16, 0x41C0#16, 0x41C8#16, 0x41D0#16, 0x41D8#16].getD b 0x0000#16

/-- Which pairs of the block have bin `b`: `bins` holds the bin of each pair. -/
def test (bins : FVec F S512x512 .bf16) (b : ℕ) : IVec S512x512 1 :=
  cmpf .oeq bins (broadcast S512x512 (Scalar.ofBits .bf16 (word b)))

/-- The product of the row types' one-hot matrix with a block of pair weights. -/
def dot (tit : Vec F S32x512 .bf16) (x : FVec F S512x512 .bf16) : FVec F S32x512 .f32 :=
  matmul dot_S32x512_S512x512_S32x512_1_0_0_1_n_n none (shapeCast S32x512 tit shapeCasts_S32x512_S32x512) x
    (constant S32x512 .f32 0x00000000#32)

/-- The scale of the pairs of bin `b`, summed over the row block by row type. -/
def whole (tit : Vec F S32x512 .bf16) (bins : FVec F S512x512 .bf16) (sc : F .bf16) (b : ℕ) : FVec F S32x512 .f32 :=
  dot tit (select (test bins b) (broadcast S512x512 sc) (broadcast S512x512 (Scalar.ofBits .bf16 0x0000#16)))

/-- The scaled fractional parts of the pairs of bin `b`, summed over the row block by row type. -/
def part (tit : Vec F S32x512 .bf16) (bins fr : FVec F S512x512 .bf16) (b : ℕ) : FVec F S32x512 .f32 :=
  dot tit (select (test bins b) fr (broadcast S512x512 (Scalar.ofBits .bf16 0x0000#16)))

/-- The slab stored for bin `b`: what the pairs of bin `b` leave to it and what those of the bin before carry over; the
    last bin keeps everything of its own pairs. -/
def slab (tit : Vec F S32x512 .bf16) (bins fr : FVec F S512x512 .bf16) (sc : F .bf16) : ℕ → FVec F S32x512 .f32
  | 0 => shapeCast S32x512 (subf (whole tit bins sc 0) (part tit bins fr 0)) shapeCasts_S32x512_S32x512
  | b + 1 => match b with
    | 26 => shapeCast S32x512 (addf (whole tit bins sc 27) (part tit bins fr 26)) shapeCasts_S32x512_S32x512
    | b => shapeCast S32x512 (addf (subf (whole tit bins sc (b + 1)) (part tit bins fr (b + 1))) (part tit bins fr b))
        shapeCasts_S32x512_S32x512

/-- Bin `b`'s 32 rows lie inside the buffer. -/
theorem inb (k : Fin 28) : ∀ a, (![32 * (27 - k.val), 0] : Fin 2 → ℕ) a + S32x512.size a ≤ S896x512.size a := by
  intro a
  match a with
  | ⟨0, _⟩ => show 32 * (27 - k.val) + 32 ≤ 896; omega
  | ⟨1, _⟩ => show 0 + 512 ≤ 512; omega

/-- The 28 stores, last first. -/
def pieces (P : ℕ → FVec F S32x512 .f32) : List (View.Piece (Elt F) S896x512 .f32) :=
  List.ofFn fun k : Fin 28 => ⟨Rect.unit ![32 * (27 - k.val), 0] S32x512.size (inb k), P (27 - k.val)⟩

/-- The buffer of 896 rows whose rows `32 b … 32 b + 31` are `P b`. -/
def buffer (P : ℕ → FVec F S32x512 .f32) : Vec F S896x512 .f32 :=
  fun y => P ((y 0).val / 32) (ix2 ⟨(y 0).val % 32, Nat.mod_lt _ (by norm_num)⟩ (y 1))

/-- At a row, the 28 stores left what the slab of the row's bin holds. -/
theorem canon_pieces (P : ℕ → FVec F S32x512 .f32) (p : ℕ) (hp : p < 896) (q : ℕ) (hq : q < 512) :
    View.canon (pieces P) (ix2 ⟨p, hp⟩ ⟨q, hq⟩) = P (p / 32) (ix2 ⟨p % 32, Nat.mod_lt _ (by norm_num)⟩ ⟨q, hq⟩) := by
  have key := View.canon_ofFn_unit_eq_of_forall (Val := Elt F) (S := S896x512) (e := .f32)
    (fun k : Fin 28 => ![32 * (27 - k.val), 0]) S32x512.size inb
    (fun k => P (27 - k.val)) (ix2 ⟨p, hp⟩ ⟨q, hq⟩)
    (P (p / 32) (ix2 ⟨p % 32, Nat.mod_lt _ (by norm_num)⟩ ⟨q, hq⟩)) ?_ ?_
  · exact key
  · refine ⟨⟨27 - p / 32, by omega⟩, fun a => ?_⟩
    match a with
    | ⟨0, _⟩ =>
      show 32 * (27 - (27 - p / 32)) ≤ p ∧ p < 32 * (27 - (27 - p / 32)) + 32
      omega
    | ⟨1, _⟩ => show 0 ≤ q ∧ q < 0 + 512; omega
  · intro k x hx
    have e0 : p = 32 * (27 - k.val) + (x 0).val := hx 0
    have e1 : q = 0 + (x 1).val := hx 1
    have b0 : (x 0).val < 32 := (x 0).isLt
    have hq' : p / 32 = 27 - k.val := by omega
    have hr : p % 32 = (x 0).val := by omega
    have hx' : x = ix2 ⟨p % 32, Nat.mod_lt _ (by norm_num)⟩ ⟨q, hq⟩ := by
      funext a
      match a with
      | ⟨0, _⟩ => exact Fin.ext hr.symm
      | ⟨1, _⟩ => exact Fin.ext (by show (x 1).val = q; omega)
    rw [hq', hx']

/-- Reading the buffer back after the 28 stores gives each row from the slab of its bin. -/
theorem readBack (v : View sig .tc .vmem S896x512 .f32) (P : ℕ → FVec F S32x512 .f32) :
    v.readCov (pieces P) (Rect.unit (s := S896x512) ![0, 0] S896x512.size inb_S896x512_S896x512_0_0).toLoadRect
      = buffer P := by
  rw [View.readCov_eq_canon']
  funext y
  have hy : (Rect.unit (s := S896x512) ![0, 0] S896x512.size inb_S896x512_S896x512_0_0).toLoadRect.idx y
      = ix2 ⟨(y 0).val, (y 0).isLt⟩ ⟨(y 1).val, (y 1).isLt⟩ := by
    funext a
    apply Fin.ext
    match a with
    | ⟨0, _⟩ => show 0 + 1 * (y 0).val = (y 0).val; omega
    | ⟨1, _⟩ => show 0 + 1 * (y 1).val = (y 1).val; omega
  rw [hy]
  exact canon_pieces P _ _ _ _

/-- The distances of the pairs of a block, from the coordinates of its rows and of its columns. -/
def dists (x0 : Vec F S512x8 .f32) (x1 : Vec F S8x512 .f32) : FVec F S512x512 .f32 :=
  k0_pay4 (View.ld x0 (Rect.unit (s := S512x8) ![0, 0] S512x1.size inb_S512x8_S512x1_0_0))
    (View.ld x1 (Rect.unit (s := S8x512) ![0, 0] S1x512.size inb_S8x512_S1x512_0_0))
    (View.ld x0 (Rect.unit (s := S512x8) ![0, 1] S512x1.size inb_S512x8_S512x1_0_1))
    (View.ld x1 (Rect.unit (s := S8x512) ![1, 0] S1x512.size inb_S8x512_S1x512_1_0))
    (View.ld x0 (Rect.unit (s := S512x8) ![0, 2] S512x1.size inb_S512x8_S512x1_0_2))
    (View.ld x1 (Rect.unit (s := S8x512) ![2, 0] S1x512.size inb_S8x512_S1x512_2_0))

/-- The histogram after one grid point, from the blocks it reads, the two block numbers and the histogram before. -/
def point (v1 v3 : Elt F .i32) (x0 : Vec F S512x8 .f32) (x1 : Vec F S8x512 .f32) (x2 : Vec F S512x1 .f32)
    (x3 : Vec F S1x512 .f32) (x4 : Vec F S32x512 .bf16) (x5 : Vec F S512x32 .bf16) (xs0 : Vec F S896x32 .f32) :
    FVec F S896x32 .f32 :=
  k0_pay117 (buffer (slab x4 (k0_pay10 (dists x0 x1) (k0_pay5 x2) x3) (k0_pay11 v1 v3 (dists x0 x1) (k0_pay5 x2) x3)
    (k0_pay12 v1 v3))) x5 x5 xs0

section cases
variable (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole)
  (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole)
  (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32)

/-- The same histogram as the run spells it: every block read through its window, the buffer read back after the
    stores. -/
def raw (H : Vec F S896x32 .f32) (v1 v3 : Elt F .i32) : FVec F S896x32 .f32 :=
  k0_pay117 (arg11.view.readCov (pieces (slab
      (View.readAt (Elt F) arg6.view (Rect.unit (s := S32x512) ![0, 0] S32x512.size inb_S32x512_S32x512_0_0).toLoadRect (harg6.unread x4))
      (k0_pay10 (k0_pay4
          (View.readAt (Elt F) arg2.view (Rect.unit (s := S512x8) ![0, 0] S512x1.size inb_S512x8_S512x1_0_0).toLoadRect (harg2.unread x0))
          (View.readAt (Elt F) arg3.view (Rect.unit (s := S8x512) ![0, 0] S1x512.size inb_S8x512_S1x512_0_0).toLoadRect (harg3.unread x1))
          (View.readAt (Elt F) arg2.view (Rect.unit (s := S512x8) ![0, 1] S512x1.size inb_S512x8_S512x1_0_1).toLoadRect (harg2.unread x0))
          (View.readAt (Elt F) arg3.view (Rect.unit (s := S8x512) ![1, 0] S1x512.size inb_S8x512_S1x512_1_0).toLoadRect (harg3.unread x1))
          (View.readAt (Elt F) arg2.view (Rect.unit (s := S512x8) ![0, 2] S512x1.size inb_S512x8_S512x1_0_2).toLoadRect (harg2.unread x0))
          (View.readAt (Elt F) arg3.view (Rect.unit (s := S8x512) ![2, 0] S1x512.size inb_S8x512_S1x512_2_0).toLoadRect (harg3.unread x1)))
        (k0_pay5 (View.readAt (Elt F) arg4.view (Rect.unit (s := S512x1) ![0, 0] S512x1.size inb_S512x1_S512x1_0_0).toLoadRect (harg4.unread x2)))
        (View.readAt (Elt F) arg5.view (Rect.unit (s := S1x512) ![0, 0] S1x512.size inb_S1x512_S1x512_0_0).toLoadRect (harg5.unread x3)))
      (k0_pay11 v1 v3 (k0_pay4
          (View.readAt (Elt F) arg2.view (Rect.unit (s := S512x8) ![0, 0] S512x1.size inb_S512x8_S512x1_0_0).toLoadRect (harg2.unread x0))
          (View.readAt (Elt F) arg3.view (Rect.unit (s := S8x512) ![0, 0] S1x512.size inb_S8x512_S1x512_0_0).toLoadRect (harg3.unread x1))
          (View.readAt (Elt F) arg2.view (Rect.unit (s := S512x8) ![0, 1] S512x1.size inb_S512x8_S512x1_0_1).toLoadRect (harg2.unread x0))
          (View.readAt (Elt F) arg3.view (Rect.unit (s := S8x512) ![1, 0] S1x512.size inb_S8x512_S1x512_1_0).toLoadRect (harg3.unread x1))
          (View.readAt (Elt F) arg2.view (Rect.unit (s := S512x8) ![0, 2] S512x1.size inb_S512x8_S512x1_0_2).toLoadRect (harg2.unread x0))
          (View.readAt (Elt F) arg3.view (Rect.unit (s := S8x512) ![2, 0] S1x512.size inb_S8x512_S1x512_2_0).toLoadRect (harg3.unread x1)))
        (k0_pay5 (View.readAt (Elt F) arg4.view (Rect.unit (s := S512x1) ![0, 0] S512x1.size inb_S512x1_S512x1_0_0).toLoadRect (harg4.unread x2)))
        (View.readAt (Elt F) arg5.view (Rect.unit (s := S1x512) ![0, 0] S1x512.size inb_S1x512_S1x512_0_0).toLoadRect (harg5.unread x3)))
      (k0_pay12 v1 v3)))
      (Rect.unit (s := S896x512) ![0, 0] S896x512.size inb_S896x512_S896x512_0_0).toLoadRect)
    (View.readAt (Elt F) arg7.view (Rect.unit (s := S512x32) ![0, 0] S512x32.size inb_S512x32_S512x32_0_0).toLoadRect (harg7.unread x5))
    (View.readAt (Elt F) arg7.view (Rect.unit (s := S512x32) ![0, 0] S512x32.size inb_S512x32_S512x32_0_0).toLoadRect (harg7.unread x5))
    H

/-- The two spellings agree. -/
theorem raw_eq (H : Vec F S896x32 .f32) (v1 v3 : Elt F .i32) :
    raw arg2 harg2 arg3 harg3 arg4 harg4 arg5 harg5 arg6 harg6 arg7 harg7 arg11 x0 x1 x2 x3 x4 x5 H v1 v3
      = point v1 v3 x0 x1 x2 x3 x4 x5 H := by
  have e2 (r : Rect S512x8) : View.readAt (Elt F) arg2.view r.toLoadRect (harg2.unread x0) = View.ld x0 r := by
    rw [View.readAt_eq_ld, Memref.IsWhole.read_unread]
  have e3 (r : Rect S8x512) : View.readAt (Elt F) arg3.view r.toLoadRect (harg3.unread x1) = View.ld x1 r := by
    rw [View.readAt_eq_ld, Memref.IsWhole.read_unread]
  have e4 : View.readAt (Elt F) arg4.view (Rect.unit (s := S512x1) ![0, 0] S512x1.size inb_S512x1_S512x1_0_0).toLoadRect
      (harg4.unread x2) = x2 := by
    rw [View.readAt_eq_ld, Memref.IsWhole.read_unread]
    exact View.ld_unit_zero (S := S512x1) (by decide) _ x2
  have e5 : View.readAt (Elt F) arg5.view (Rect.unit (s := S1x512) ![0, 0] S1x512.size inb_S1x512_S1x512_0_0).toLoadRect
      (harg5.unread x3) = x3 := by
    rw [View.readAt_eq_ld, Memref.IsWhole.read_unread]
    exact View.ld_unit_zero (S := S1x512) (by decide) _ x3
  have e6 : View.readAt (Elt F) arg6.view (Rect.unit (s := S32x512) ![0, 0] S32x512.size inb_S32x512_S32x512_0_0).toLoadRect
      (harg6.unread x4) = x4 := by
    rw [View.readAt_eq_ld, Memref.IsWhole.read_unread]
    exact View.ld_unit_zero (S := S32x512) (by decide) _ x4
  have e7 : View.readAt (Elt F) arg7.view (Rect.unit (s := S512x32) ![0, 0] S512x32.size inb_S512x32_S512x32_0_0).toLoadRect
      (harg7.unread x5) = x5 := by
    rw [View.readAt_eq_ld, Memref.IsWhole.read_unread]
    exact View.ld_unit_zero (S := S512x32) (by decide) _ x5
  unfold raw point dists
  rw [readBack, e2, e2, e2, e3, e3, e3, e4, e5, e6, e7]

/-- In the middle of the grid the point adds to the histogram carried over. -/
theorem raw_B : kernelRun0_B.sl.r_39 c i arg2 harg2 arg3 harg3 arg4 harg4 arg5 harg5 arg6 harg6 arg7 harg7 arg10 harg10 arg11 x0 x1 x2 x3 x4 x5 xt0 xs0
    = raw arg2 harg2 arg3 harg3 arg4 harg4 arg5 harg5 arg6 harg6 arg7 harg7 arg11 x0 x1 x2 x3 x4 x5
        (View.readAt (Elt F) arg10.view (Rect.unit (s := S896x32) ![0, 0] S896x32.size inb_S896x32_S896x32_0_0).toLoadRect (harg10.unread xs0))
        (kernelRun0_B.sl.r c i xt0) (kernelRun0_B.sl.r_1 c i xt0) := by
  sl_kernel_rfl

/-- At the last point likewise. -/
theorem raw_C : kernelRun0_C.sl.r_39 c i arg2 harg2 arg3 harg3 arg4 harg4 arg5 harg5 arg6 harg6 arg7 harg7 arg10 harg10 arg11 x0 x1 x2 x3 x4 x5 xt0 xs0
    = raw arg2 harg2 arg3 harg3 arg4 harg4 arg5 harg5 arg6 harg6 arg7 harg7 arg11 x0 x1 x2 x3 x4 x5
        (View.readAt (Elt F) arg10.view (Rect.unit (s := S896x32) ![0, 0] S896x32.size inb_S896x32_S896x32_0_0).toLoadRect (harg10.unread xs0))
        (kernelRun0_C.sl.r c i xt0) (kernelRun0_C.sl.r_1 c i xt0) := by
  sl_kernel_rfl

/-- At the first point the point adds to the zeros it has just stored. -/
theorem raw_A : kernelRun0_A.sl.r_39 c i arg2 harg2 arg3 harg3 arg4 harg4 arg5 harg5 arg6 harg6 arg7 harg7 arg10 arg11 x0 x1 x2 x3 x4 x5 xt0
    = raw arg2 harg2 arg3 harg3 arg4 harg4 arg5 harg5 arg6 harg6 arg7 harg7 arg11 x0 x1 x2 x3 x4 x5
        (kernelRun0_A.sl.v549 c arg10) (kernelRun0_A.sl.r c i xt0) (kernelRun0_A.sl.r_1 c i xt0) := by
  sl_kernel_rfl
end cases

end Cert.KernelIdeal.Slabs
-- ==== Proof.Consts.lean ====
/- The numbers the literals of the kernel and of the reference stand for. -/
module

public import proofs.«01_k».proof.Proof.Slabs

@[expose] public section

noncomputable section

open Idealize.ShloMosaic

namespace Cert.Consts

/-- The single precision number next to one hundred millionth, added to every distance. -/
def eps : ℝ := 11258999 / 2 ^ 50

/-- The single precision number next to 19.6, the cutoff of the distance. -/
def cut : ℝ := 10276045 / 2 ^ 19

/-- The number of bins per unit of distance: one over the single precision number next to 0.7. -/
def inv : ℝ := 16777216 / 11744051

/-- `eps` is positive. -/
theorem eps_pos : 0 < eps := by unfold eps; norm_num

/-- `inv` is positive. -/
theorem inv_pos : 0 < inv := by unfold inv; norm_num

/-- The word of zero. -/
theorem w_zero : Ideal.ofBits .f32 0x00000000#32 = ((0 : ℝ) : EReal) := by
  simp [Ideal.ofBits, Ideal.ieee, -EReal.coe_mul]

/-- The word of one. -/
theorem w_one : Ideal.ofBits .f32 0x3F800000#32 = ((1 : ℝ) : EReal) := by
  simp [Ideal.ofBits, Ideal.ieee, -EReal.coe_mul]; try norm_num

/-- The word of a half. -/
theorem w_half : Ideal.ofBits .f32 0x3F000000#32 = ((1 / 2 : ℝ) : EReal) := by
  simp [Ideal.ofBits, Ideal.ieee, -EReal.coe_mul]; try norm_num

/-- The word of minus one. -/
theorem w_neg : Ideal.ofBits .f32 0xBF800000#32 = ((-1 : ℝ) : EReal) := by
  simp [Ideal.ofBits, Ideal.ieee, -EReal.coe_mul]; try norm_num

/-- The word of two. -/
theorem w_two : Ideal.ofBits .f32 0x40000000#32 = ((2 : ℝ) : EReal) := by
  simp [Ideal.ofBits, Ideal.ieee, -EReal.coe_mul]; try norm_num

/-- The word of twenty seven. -/
theorem w_last : Ideal.ofBits .f32 0x41D80000#32 = ((27 : ℝ) : EReal) := by
  simp [Ideal.ofBits, Ideal.ieee, -EReal.coe_mul]; try norm_num

/-- The word of the cutoff. -/
theorem w_cut : Ideal.ofBits .f32 0x419CCCCD#32 = (cut : EReal) := by
  unfold cut
  simp [Ideal.ofBits, Ideal.ieee, -EReal.coe_mul]; try norm_num

/-- The word of the number added to the distances. -/
theorem w_eps : Ideal.ofBits .f32 0x322BCC77#32 = (eps : EReal) := by
  unfold eps
  simp [Ideal.ofBits, Ideal.ieee, -EReal.coe_mul]; try norm_num

/-- The word of the reference's divisor: one over `inv`. -/
theorem w_bin : Ideal.ofBits .f32 0x3F333333#32 = ((11744051 / 16777216 : ℝ) : EReal) := by
  simp [Ideal.ofBits, Ideal.ieee, -EReal.coe_mul]; try norm_num

/-- The half precision word of zero. -/
theorem b_zero : Ideal.ofBits .bf16 0x0000#16 = ((0 : ℝ) : EReal) := by
  simp [Ideal.ofBits, Ideal.ieee, -EReal.coe_mul]

/-- The half precision word of bin `b` stands for `b`. -/
theorem b_word (b : ℕ) (hb : b < 28) : Ideal.ofBits .bf16 (Cert.KernelIdeal.Slabs.word b) = ((b : ℝ) : EReal) := by
  interval_cases b <;> simp [Cert.KernelIdeal.Slabs.word, Ideal.ofBits, Ideal.ieee, -EReal.coe_mul] <;> try norm_num

end Cert.Consts
-- ==== Proof.Bins.lean ====
/- The plain mathematics of one pair: its distance, its bin, what it leaves to each bin. -/
module

public import proofs.«01_k».proof.Proof.Consts

@[expose] public section

noncomputable section

open Idealize.ShloMosaic

namespace Cert.Bins

open Cert.Consts

/-- The distance of two points, with the small number added. -/
def dist (a b : Fin 3 → EReal) : EReal :=
  Ideal.sqrt ((a 0 - b 0) * (a 0 - b 0) + (a 1 - b 1) * (a 1 - b 1) + (a 2 - b 2) * (a 2 - b 2)) + ((eps : ℝ) : EReal)

/-- A square is not negative. -/
theorem sq_nonneg (x : EReal) : 0 ≤ x * x := by
  rcases le_total 0 x with h | h
  · exact mul_nonneg h h
  · have h' : 0 ≤ -x := by simpa using (EReal.neg_le_neg_iff.mpr h)
    have := mul_nonneg h' h'
    rwa [neg_mul_neg] at this

/-- A square root of a number that is not negative is not negative. -/
theorem sqrt_nonneg {x : EReal} (h : 0 ≤ x) : 0 ≤ Ideal.sqrt x := by
  induction x with
  | bot => simp at h
  | top => simp
  | coe r =>
    rw [Ideal.sqrt_coe, if_neg (by exact not_lt.mpr (by exact_mod_cast h))]
    exact_mod_cast Real.sqrt_nonneg r

/-- A distance is not negative. -/
theorem dist_nonneg (a b : Fin 3 → EReal) : 0 ≤ dist a b := by
  unfold dist
  refine add_nonneg (sqrt_nonneg (add_nonneg (add_nonneg (sq_nonneg _) (sq_nonneg _)) (sq_nonneg _))) ?_
  exact_mod_cast eps_pos.le

/-- The square of a difference does not depend on the order. -/
theorem sq_sub_comm (x y : EReal) : (x - y) * (x - y) = (y - x) * (y - x) := by
  by_cases h : x = y
  · rw [h]
  · have h1 : x ≠ ⊥ ∨ y ≠ ⊥ := by
      by_contra hc; push Not at hc; exact h (hc.1.trans hc.2.symm)
    have h2 : x ≠ ⊤ ∨ y ≠ ⊤ := by
      by_contra hc; push Not at hc; exact h (hc.1.trans hc.2.symm)
    have e : -(x - y) = y - x := by
      rw [EReal.neg_sub h1 h2, add_comm, sub_eq_add_neg]
    rw [← e, neg_mul_neg]

/-- The distance does not depend on the order of the points. -/
theorem dist_comm (a b : Fin 3 → EReal) : dist a b = dist b a := by
  unfold dist
  rw [sq_sub_comm (a 0), sq_sub_comm (a 1), sq_sub_comm (a 2)]

/-- The bin of a distance. -/
def bin (d : EReal) : ℕ := ⌊min (d.toReal * inv) 27⌋.toNat

/-- How far, in bins, the distance lies past its bin. -/
def frac (d : EReal) : ℝ := d.toReal * inv - bin d

/-- The bins are numbered up to 27. -/
theorem bin_le (d : EReal) : bin d ≤ 27 := by
  unfold bin
  have : ⌊min (d.toReal * inv) 27⌋ ≤ 27 := by
    rw [← Int.cast_le (R := ℝ)]
    exact (Int.floor_le _).trans (by push_cast; exact min_le_right _ _)
  omega

/-- The bin as a number. -/
theorem bin_cast {d : EReal} (h : 0 ≤ d) : ((bin d : ℕ) : ℝ) = ((⌊min (d.toReal * inv) 27⌋ : ℤ) : ℝ) := by
  have h0 : 0 ≤ ⌊min (d.toReal * inv) 27⌋ :=
    Int.floor_nonneg.mpr (le_min (mul_nonneg (EReal.toReal_nonneg h) inv_pos.le) (by norm_num))
  unfold bin
  have : ((⌊min (d.toReal * inv) 27⌋.toNat : ℕ) : ℤ) = ⌊min (d.toReal * inv) 27⌋ := Int.toNat_of_nonneg h0
  exact_mod_cast congrArg (fun z : ℤ => (z : ℝ)) this

/-- A pair counts if its residues are more than two apart and its distance is below the cutoff. -/
def near (a : ℝ) (d : EReal) : Prop := 2 < a ∧ d < ((cut : ℝ) : EReal)

/-- A distance that counts is a number. -/
theorem near_real {a : ℝ} {d : EReal} (h : 0 ≤ d) (hn : near a d) : d = ((d.toReal : ℝ) : EReal) := by
  refine (EReal.coe_toReal ?_ ?_).symm
  · exact ne_top_of_lt hn.2
  · intro hb; rw [hb] at h; simp at h

/-- The rounded bin of a distance that counts. -/
theorem floor_eq {a : ℝ} {d : EReal} (h : 0 ≤ d) (hn : near a d) :
    Ideal.liftRound Int.floor (min (d * ((inv : ℝ) : EReal)) ((27 : ℝ) : EReal)) = (((bin d : ℕ) : ℝ) : EReal) := by
  rw [bin_cast h]
  conv_lhs => rw [near_real h hn]
  rw [← EReal.coe_mul, ← EReal.coe_strictMono.monotone.map_min, Ideal.liftRound_coe]

/-- The fractional part of a distance that counts. -/
theorem frac_eq {a : ℝ} {d : EReal} (h : 0 ≤ d) (hn : near a d) :
    d * ((inv : ℝ) : EReal) - (((bin d : ℕ) : ℝ) : EReal) = ((frac d : ℝ) : EReal) := by
  unfold frac
  generalize bin d = β
  conv_lhs => rw [near_real h hn]
  rw [← EReal.coe_mul, ← EReal.coe_sub]

/-- What a pair of bin `β` and fractional part `α` leaves to bin `b`: `1 - α` to its own bin, `α` to the next one, both to
    the last bin when its own is the last. -/
def share (β : ℕ) (α : ℝ) (b : ℕ) : ℝ := (if b = β then 1 - α else 0) + (if b = min (β + 1) 27 then α else 0)

/-- What a pair at distance `d`, its residues `a` apart, leaves to bin `b`. -/
def weight (a : ℝ) (d : EReal) (b : ℕ) : ℝ := by
  classical exact if near a d then share (bin d) (frac d) b else 0

/-- The weight of a pair that counts. -/
theorem weight_pos {a : ℝ} {d : EReal} (h : near a d) (b : ℕ) : weight a d b = share (bin d) (frac d) b := by
  unfold weight; exact if_pos h

/-- The weight of a pair that does not. -/
theorem weight_neg {a : ℝ} {d : EReal} (h : ¬ near a d) (b : ℕ) : weight a d b = 0 := by
  unfold weight; exact if_neg h

/-- Summing the shares against a table picks the two entries between which the distance lies. -/
theorem sum_share (p : Fin 28 → ℝ) (β : ℕ) (hβ : β ≤ 27) (α : ℝ) :
    ∑ b : Fin 28, share β α b.val * p b
      = (1 - α) * p ⟨β, by omega⟩ + α * p ⟨min (β + 1) 27, by omega⟩ := by
  unfold share
  simp only [add_mul, Finset.sum_add_distrib]
  congr 1
  · rw [Finset.sum_eq_single ⟨β, by omega⟩]
    · simp
    · intro b _ hb
      rw [if_neg (fun h => hb (Fin.ext h)), zero_mul]
    · simp
  · rw [Finset.sum_eq_single ⟨min (β + 1) 27, by omega⟩]
    · simp
    · intro b _ hb
      rw [if_neg (fun h => hb (Fin.ext h)), zero_mul]
    · simp

end Cert.Bins
-- ==== Proof.Lookup.lean ====
/- The reference's table lookup, read at one pair of residues. -/
module

public import proofs.«01_k».proof.Proof.Gen.ReferenceIdeal.Read
public import Idealize.ShloMosaic.Lib.Pointwise

@[expose] public section

set_option maxRecDepth 16384

noncomputable section

open Idealize.ShloMosaic Idealize.ShloMosaic.TcCoe

namespace Cert.Lookup

open Cert.ReferenceIdeal Cert.ReferenceIdeal.Gen

/-- The lookup's axes and sizes. -/
abbrev axes : GatherDims S32x32x28 S4096x4096x3 S4096x4096 := gather_S32x32x28_S4096x4096x3_S4096x4096_n_012_n_n_012_2_111

/-- Every axis of the table is named by an entry of the index. -/
theorem mem_axes (a : Fin 3) : a ∈ ([0, 1, 2] : List (Fin 3)) := by
  revert a; decide

/-- Where the lookup starts on an axis: that entry of the index, as a signed number kept inside the axis. -/
theorem start_eq (idx : IVec S4096x4096x3 32) (I J : Fin 4096) (a : Fin 3) :
    axes.start (ix2 I J) idx a = min (idx (ix3 I J a)).toInt.toNat (S32x32x28.size a - 1) := by
  unfold GatherDims.start
  rw [dif_pos (show a ∈ axes.startIndexMap from mem_axes a)]
  have hs : axes.siIdx (ix2 I J) ⟨List.idxOf a axes.startIndexMap, List.idxOf_lt_length_iff.2 (mem_axes a)⟩ = ix3 I J a := by
    funext b
    refine Fin.ext ?_
    match a, b with
    | 0, ⟨0, _⟩ | 0, ⟨1, _⟩ | 0, ⟨2, _⟩ => rfl
    | 1, ⟨0, _⟩ | 1, ⟨1, _⟩ | 1, ⟨2, _⟩ => rfl
    | 2, ⟨0, _⟩ | 2, ⟨1, _⟩ | 2, ⟨2, _⟩ => rfl
  rw [hs]
  match a with
  | 0 => rfl
  | 1 => rfl
  | 2 => rfl

/-- The lookup at a pair of residues, where the index names a cell of the table: that cell. -/
theorem lookup {α : Type} (x : S32x32x28.Idx → α) (idx : IVec S4096x4096x3 32) (I J : Fin 4096) (a s : Fin 32) (b : Fin 28)
    (ha : idx (ix3 I J 0) = BitVec.ofNat 32 a.val) (hs : idx (ix3 I J 1) = BitVec.ofNat 32 s.val)
    (hb : idx (ix3 I J 2) = BitVec.ofNat 32 b.val) :
    Host.gather axes x idx (ix2 I J) = x (ix3 a s b) := by
  have word : ∀ k : ℕ, k < 32 → (BitVec.ofNat 32 k).toInt.toNat = k := by decide
  unfold Host.gather
  congr 1
  funext k
  refine Fin.ext ?_
  show axes.start (ix2 I J) idx k + axes.batchCoord (ix2 I J) k + axes.offCoord (ix2 I J) k = _
  rw [GatherDims.batchCoord_eq_zero _ _ _ List.not_mem_nil,
    GatherDims.offCoord_eq_zero _ _ _ (fun h => ((GatherDims.mem_sKept _ _).mp h).1 (mem_axes k)), start_eq]
  match k with
  | 0 => rw [ha, word _ a.isLt]; exact Nat.min_eq_left (Nat.le_of_lt_succ a.isLt)
  | 1 => rw [hs, word _ s.isLt]; exact Nat.min_eq_left (Nat.le_of_lt_succ s.isLt)
  | 2 => rw [hb, word _ (b.isLt.trans (by decide))]; exact Nat.min_eq_left (Nat.le_of_lt_succ b.isLt)

end Cert.Lookup
-- ==== Proof.RefPoint.lean ====
/- The reference's intermediate arrays, read at one pair of residues. -/
module

public import proofs.«01_k».proof.Proof.Gen.ReferenceIdeal.Read
public import proofs.«01_k».proof.Proof.Bins
public import proofs.«01_k».proof.Proof.Lookup
public import Idealize.ShloMosaic.Lib.Pointwise

@[expose] public section

set_option maxRecDepth 16384

noncomputable section

open Idealize.ShloMosaic Idealize.ShloMosaic.TcCoe

namespace Cert.RefPoint

open Cert.ReferenceIdeal Cert.ReferenceIdeal.Gen Cert.ReferenceIdeal.Read

variable (C : Vec Ideal S4096x3 .f32) (T R : IVec S4096 32) (P : Vec Ideal S32x32x28 .f32) (I J : Fin 4096)

/-- The first residue comes before the second. -/
theorem v5_at : val_main_v5 (F := Ideal) (ix2 I J) = IntOp.cmpi .slt (BitVec.ofNat 32 I.val) (BitVec.ofNat 32 J.val) := by
  pointwise [val_main_v5, val_main_v4, val_main_v3, val_main_v2, val_main_v1, val_main_v0]

/-- The residue numbers differ by more than two. -/
theorem v13_at : val_main_v13 (F := Ideal) R (ix2 I J) = IntOp.cmpi .sgt (IntOp.absi (IntOp.subi (R (ix1 I)) (R (ix1 J)))) 2#32 := by
  pointwise [val_main_v13, val_main_v12, val_main_v11, val_main_v10, val_main_v9, val_main_v8, val_main_v7, val_main_v6, val_main_c]

/-- The pair is far enough along the chain and both residues have a type. -/
theorem v23_at : val_main_v23 (F := Ideal) T R (ix2 I J)
    = IntOp.andi (IntOp.andi (val_main_v13 (F := Ideal) R (ix2 I J)) (IntOp.cmpi .ne (T (ix1 I)) 4294967295#32)) (IntOp.cmpi .ne (T (ix1 J)) 4294967295#32) := by
  pointwise [val_main_v23, val_main_v22, val_main_v21, val_main_v20, val_main_v19, val_main_v18, val_main_v17, val_main_v16, val_main_v15, val_main_v14, val_main_c_0, val_main_c_1]

/-- The distance between the two residues. -/
abbrev far : EReal := Bins.dist ![C (ix2 I 0), C (ix2 I 1), C (ix2 I 2)] ![C (ix2 J 0), C (ix2 J 1), C (ix2 J 2)]

/-- The reference computes that distance. -/
theorem v31_at : val_main_v31 (F := Ideal) C (ix2 I J) = far C I J := by
  have h : val_main_call0_v1 (F := Ideal) C (ix2 I J) = (C (ix2 I 0) - C (ix2 J 0)) * (C (ix2 I 0) - C (ix2 J 0))
      + (C (ix2 I 1) - C (ix2 J 1)) * (C (ix2 I 1) - C (ix2 J 1)) + (C (ix2 I 2) - C (ix2 J 2)) * (C (ix2 I 2) - C (ix2 J 2)) := by
    rw [val_main_call0_v1_apply]
    pointwise [val_main_call0_v0, val_main_call0_cst, val_main_v28, val_main_v27, val_main_v26, val_main_v25, val_main_v24]
    exact Fin.sum_univ_three _
  pointwise [val_main_v31, val_main_v30, val_main_v29, val_main_cst]
  rw [h, Consts.w_eps]
  rfl

/-- The distance over the width of a bin. -/
theorem v33_at : val_main_v33 (F := Ideal) C (ix2 I J) = far C I J * ((Consts.inv : ℝ) : EReal) := by
  have h : val_main_v33 (F := Ideal) C (ix2 I J) = Ideal.div (val_main_v31 (F := Ideal) C (ix2 I J)) (Ideal.ofBits FTy.f32 0x3F333333#32) := by
    pointwise [val_main_v33, val_main_v32, val_main_cst_2]
  rw [h, v31_at, Consts.w_bin, Ideal.div_coe (by norm_num)]
  congr 2
  norm_num [Consts.inv]

/-- The zero word is the number zero. -/
theorem zero_at : (id (constant (F := Ideal) S_ FTy.f32 0#32) ix0 : EReal) = 0 := Consts.w_zero

/-- A small whole number, written as a word. -/
theorem to_word (n : ℕ) (h : n ≤ 27) : Ideal.fptosi 32 (((n : ℝ)) : EReal) = BitVec.ofNat 32 n := by
  rw [Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by
    norm_num
    omega
  rw [this, BitVec.ofInt_natCast]

/-- The bin of a pair near in space. -/
theorem v36_at (x : ℝ) (hn : Bins.near x (far C I J)) :
    val_main_v36 (F := Ideal) C (ix2 I J) = BitVec.ofNat 32 (Bins.bin (far C I J)) := by
  have h0 : 0 ≤ far C I J := Bins.dist_nonneg _ _
  have h : val_main_v36 (F := Ideal) C (ix2 I J) = Ideal.fptosi 32 (Ideal.liftRound Int.floor
      (min (Ideal.ofBits FTy.f32 0x41D80000#32) (max 0 (val_main_v33 (F := Ideal) C (ix2 I J))))) := by
    pointwise [val_main_v36, val_main_v35, val_main_v34, val_main_call1_v4, val_main_call1_v3, val_main_call1_v2, val_main_call1_v1,
      val_main_call1_v0, val_main_cst_3, val_main_cst_4]
    rw [zero_at]
    rfl
  have hp : 0 ≤ far C I J * ((Consts.inv : ℝ) : EReal) :=
    mul_nonneg h0 (EReal.coe_nonneg.2 Consts.inv_pos.le)
  rw [h, v33_at, Consts.w_last, max_eq_right hp, min_comm, Bins.floor_eq h0 hn, to_word _ (Bins.bin_le _)]

/-- The bin above it, kept inside the table. -/
theorem v40_at (x : ℝ) (hn : Bins.near x (far C I J)) :
    val_main_v40 (F := Ideal) C (ix2 I J) = BitVec.ofNat 32 (min (Bins.bin (far C I J) + 1) 27) := by
  have h : val_main_v40 (F := Ideal) C (ix2 I J) = IntOp.minsi (IntOp.addi (val_main_v36 (F := Ideal) C (ix2 I J)) 1#32) 27#32 := by
    pointwise [val_main_v40, val_main_v39, val_main_v38, val_main_v37, val_main_c_5, val_main_c_6]
  have hw : ∀ n < 28, IntOp.minsi (IntOp.addi (BitVec.ofNat 32 n) 1#32) 27#32 = BitVec.ofNat 32 (min (n + 1) 27) := by decide
  rw [h, v36_at C I J x hn, hw _ (Nat.lt_succ_of_le (Bins.bin_le _))]

/-- How far into its bin the distance lies. -/
theorem v42_at (x : ℝ) (hn : Bins.near x (far C I J)) :
    val_main_v42 (F := Ideal) C (ix2 I J) = ((Bins.frac (far C I J) : ℝ) : EReal) := by
  have h : val_main_v42 (F := Ideal) C (ix2 I J) = val_main_v33 (F := Ideal) C (ix2 I J)
      - (((val_main_v36 (F := Ideal) C (ix2 I J)).toInt : ℝ) : EReal) := by
    pointwise [val_main_v42, val_main_v41]
    rfl
  have hw : ∀ n < 28, (BitVec.ofNat 32 n).toInt = (n : ℤ) := by decide
  rw [h, v33_at, v36_at C I J x hn, hw _ (Nat.lt_succ_of_le (Bins.bin_le _)), Int.cast_natCast]
  exact Bins.frac_eq (Bins.dist_nonneg _ _) hn

/-- An index that is not negative is used as it is. -/
theorem unwrapped (m : BitVec 32) (n : ℕ) (h : n < 32) :
    Scalar.select (IntOp.cmpi .slt (BitVec.ofNat 32 n) 0#32) (IntOp.addi (BitVec.ofNat 32 n) m) (BitVec.ofNat 32 n) = BitVec.ofNat 32 n := by
  have hw : ∀ n < 32, IntOp.cmpi .slt (BitVec.ofNat 32 n) 0#32 = 0#1 := by decide
  rw [hw n h]
  rfl

/-- The table's entry at the pair's types and bin. -/
theorem v66_at (x : ℝ) (hn : Bins.near x (far C I J)) (a s : Fin 32) (ha : T (ix1 I) = BitVec.ofNat 32 a.val)
    (hs : T (ix1 J) = BitVec.ofNat 32 s.val) :
    val_main_v66 (F := Ideal) C T P (ix2 I J) = P (ix3 a s ⟨Bins.bin (far C I J), Nat.lt_succ_of_le (Bins.bin_le _)⟩) := by
  refine Lookup.lookup P _ I J a s _ ?_ ?_ ?_
  · have h : val_main_v65 (F := Ideal) C T (ix3 I J 0)
        = Scalar.select (IntOp.cmpi .slt (T (ix1 I)) 0#32) (IntOp.addi (T (ix1 I)) 32#32) (T (ix1 I)) := by
      pointwise [val_main_v65, val_main_v62, val_main_v60, val_main_v49, val_main_v48, val_main_v47, val_main_v46, val_main_v45,
        val_main_v43, val_main_c_7, val_main_c_8]
    rw [h, ha, unwrapped _ _ a.isLt]
  · have h : val_main_v65 (F := Ideal) C T (ix3 I J 1)
        = Scalar.select (IntOp.cmpi .slt (T (ix1 J)) 0#32) (IntOp.addi (T (ix1 J)) 32#32) (T (ix1 J)) := by
      pointwise [val_main_v65, val_main_v63, val_main_v61, val_main_v54, val_main_v53, val_main_v52, val_main_v51, val_main_v50,
        val_main_v44, val_main_c_9, val_main_c_10]
    rw [h, hs, unwrapped _ _ s.isLt]
  · have h : val_main_v65 (F := Ideal) C T (ix3 I J 2) = Scalar.select (IntOp.cmpi .slt (val_main_v36 (F := Ideal) C (ix2 I J)) 0#32)
        (IntOp.addi (val_main_v36 (F := Ideal) C (ix2 I J)) 28#32) (val_main_v36 (F := Ideal) C (ix2 I J)) := by
      pointwise [val_main_v65, val_main_v64, val_main_v59, val_main_v58, val_main_v57, val_main_v56, val_main_v55,
        val_main_c_11, val_main_c_12]
    rw [h, v36_at C I J x hn, unwrapped _ _ ((Nat.lt_succ_of_le (Bins.bin_le _)).trans (by decide))]

/-- The table's entry at the pair's types and the bin above. -/
theorem v88_at (x : ℝ) (hn : Bins.near x (far C I J)) (a s : Fin 32) (ha : T (ix1 I) = BitVec.ofNat 32 a.val)
    (hs : T (ix1 J) = BitVec.ofNat 32 s.val) :
    val_main_v88 (F := Ideal) C T P (ix2 I J)
      = P (ix3 a s ⟨min (Bins.bin (far C I J) + 1) 27, Nat.lt_succ_of_le (Nat.min_le_right _ _)⟩) := by
  refine Lookup.lookup P _ I J a s _ ?_ ?_ ?_
  · have h : val_main_v87 (F := Ideal) C T (ix3 I J 0)
        = Scalar.select (IntOp.cmpi .slt (T (ix1 I)) 0#32) (IntOp.addi (T (ix1 I)) 32#32) (T (ix1 I)) := by
      pointwise [val_main_v87, val_main_v84, val_main_v82, val_main_v71, val_main_v70, val_main_v69, val_main_v68, val_main_v67,
        val_main_v43, val_main_c_13, val_main_c_14]
    rw [h, ha, unwrapped _ _ a.isLt]
  · have h : val_main_v87 (F := Ideal) C T (ix3 I J 1)
        = Scalar.select (IntOp.cmpi .slt (T (ix1 J)) 0#32) (IntOp.addi (T (ix1 J)) 32#32) (T (ix1 J)) := by
      pointwise [val_main_v87, val_main_v85, val_main_v83, val_main_v76, val_main_v75, val_main_v74, val_main_v73, val_main_v72,
        val_main_v44, val_main_c_15, val_main_c_16]
    rw [h, hs, unwrapped _ _ s.isLt]
  · have h : val_main_v87 (F := Ideal) C T (ix3 I J 2) = Scalar.select (IntOp.cmpi .slt (val_main_v40 (F := Ideal) C (ix2 I J)) 0#32)
        (IntOp.addi (val_main_v40 (F := Ideal) C (ix2 I J)) 28#32) (val_main_v40 (F := Ideal) C (ix2 I J)) := by
      pointwise [val_main_v87, val_main_v86, val_main_v81, val_main_v80, val_main_v79, val_main_v78, val_main_v77,
        val_main_c_17, val_main_c_18]
    rw [h, v40_at C I J x hn, unwrapped _ _ ((Nat.lt_succ_of_le (Nat.min_le_right _ _)).trans (by decide))]

/-- The mask of a pair: one where the pair counts, zero elsewhere. -/
theorem v98_at : val_main_v98 (F := Ideal) C T R (ix2 I J)
    = (((val_main_v23 (F := Ideal) T R (ix2 I J)).toNat : ℝ) : EReal)
      * (((BitVec.ofBool (decide (far C I J < ((Consts.cut : ℝ) : EReal)))).toNat : ℝ) : EReal) := by
  have h : val_main_v98 (F := Ideal) C T R (ix2 I J) = (((val_main_v23 (F := Ideal) T R (ix2 I J)).toNat : ℝ) : EReal)
      * (((BitVec.ofBool (decide (val_main_v31 (F := Ideal) C (ix2 I J) < Ideal.ofBits FTy.f32 0x419CCCCD#32))).toNat : ℝ) : EReal) := by
    pointwise [val_main_v98, val_main_v97, val_main_v96, val_main_v95, val_main_v94, val_main_cst_20]
    rfl
  rw [h, v31_at, Consts.w_cut]

/-- What one pair adds to the reference's sum. -/
theorem v100_at : val_main_v100 (F := Ideal) C T R P (ix2 I J) = Scalar.select (IntOp.cmpi .slt (BitVec.ofNat 32 I.val) (BitVec.ofNat 32 J.val))
    (((((1 : ℝ) : EReal) - val_main_v42 (F := Ideal) C (ix2 I J)) * val_main_v66 (F := Ideal) C T P (ix2 I J)
      + val_main_v42 (F := Ideal) C (ix2 I J) * val_main_v88 (F := Ideal) C T P (ix2 I J))
      * val_main_v98 (F := Ideal) C T R (ix2 I J)) ((0 : ℝ) : EReal) := by
  have h : val_main_v100 (F := Ideal) C T R P (ix2 I J) = Scalar.select (val_main_v5 (F := Ideal) (ix2 I J))
      (((1 - val_main_v42 (F := Ideal) C (ix2 I J)) * val_main_v66 (F := Ideal) C T P (ix2 I J)
        + val_main_v42 (F := Ideal) C (ix2 I J) * val_main_v88 (F := Ideal) C T P (ix2 I J))
        * val_main_v98 (F := Ideal) C T R (ix2 I J)) 0 := by
    pointwise [val_main_v100, val_main_v99, val_main_v93, val_main_v92, val_main_v91, val_main_v90, val_main_v89, val_main_call2_v1,
      val_main_call2_v0, val_main_cst_19, val_main_cst_21]
    rw [zero_at]
  rw [h, v5_at]
  rfl

end Cert.RefPoint
-- ==== Proof.Point.lean ====
/- One grid point of the kernel, read at an index: with the one-hot matrices, the residue numbers and the histogram
   before the point given as numbers, the histogram after the point is a number too, and this is which. -/
module

public import proofs.«01_k».proof.Proof.Bins

@[expose] public section

set_option maxRecDepth 16384

noncomputable section

open Idealize.ShloMosaic Idealize.ShloMosaic.TcCoe

namespace Cert.KernelIdeal.Point

open Cert.KernelIdeal Cert.KernelIdeal.Gen Cert.KernelIdeal.Slabs Cert.Consts Cert.Bins

/-- The named constant stands for the number of bins per unit of distance. -/
theorem named_inv : (Named.named κ "inv_bin" 0x3FB6DB6E#32 : Ideal .f32) = ((inv : ℝ) : EReal) := by
  exact IdealRules.named_const.ideal_named_scalar _ _ _ _ rfl

/-- The distance of a pair of the block. -/
theorem dists_apply (x0 : Vec Ideal S512x8 .f32) (x1 : Vec Ideal S8x512 .f32) (i j : Fin 512) :
    dists x0 x1 (ix2 i j) = Bins.dist ![x0 (ix2 i 0), x0 (ix2 i 1), x0 (ix2 i 2)] ![x1 (ix2 0 j), x1 (ix2 1 j), x1 (ix2 2 j)] := by
  pointwise [dists, k0_pay4]
  unfold Bins.dist
  rw [← w_eps]
  rfl

section pair
variable (d : FVec Ideal S512x512 .f32) (x2 : Vec Ideal S512x1 .f32) (x3 : Vec Ideal S1x512 .f32)
  (ρ ρ' : Fin 512 → ℝ) (h2 : ∀ i, x2 (ix2 i 0) = ((ρ i : ℝ) : EReal)) (h3 : ∀ j, x3 (ix2 0 j) = ((ρ' j : ℝ) : EReal))
include h2 h3

/-- Which pairs the kernel masks in. -/
theorem mask_iff (i j : Fin 512) :
    k0_pay6 d (k0_pay5 x2) x3 (ix2 i j) = 1 ↔ near |ρ i - ρ' j| (d (ix2 i j)) := by
  have ha : (FloatOps.absf (x2 (ix2 i 0) - x3 (ix2 0 j)) : Ideal .f32) = ((|ρ i - ρ' j| : ℝ) : EReal) := by
    rw [Ideal.absf_def, h2, h3, ← EReal.coe_sub, ← EReal.coe_neg, ← EReal.coe_strictMono.monotone.map_max]
    rfl
  have key : k0_pay6 d (k0_pay5 x2) x3 (ix2 i j)
      = IntOp.andi (BitVec.ofBool (decide (Ideal.ofBits .f32 0x40000000#32 < (FloatOps.absf (x2 (ix2 i 0) - x3 (ix2 0 j)) : Ideal .f32))))
        (BitVec.ofBool (decide (d (ix2 i j) < Ideal.ofBits .f32 0x419CCCCD#32))) := by
    pointwise [k0_pay6, k0_pay5]
  rw [key, ha, w_two, w_cut]
  unfold near
  by_cases p : ((2 : ℝ) : EReal) < ((|ρ i - ρ' j| : ℝ) : EReal) <;> by_cases q : d (ix2 i j) < ((cut : ℝ) : EReal)
  · simp only [p, q, decide_true]; exact ⟨fun _ => ⟨by exact_mod_cast p, trivial⟩, fun _ => by decide⟩
  · simp only [p, q, decide_true, decide_false]
    exact ⟨fun h => absurd h (by decide), fun h => h.2.elim⟩
  · simp only [p, q, decide_true, decide_false]
    exact ⟨fun h => absurd h (by decide), fun h => absurd (by exact_mod_cast h.1) p⟩
  · simp only [p, q, decide_false]
    exact ⟨fun h => absurd h (by decide), fun h => h.2.elim⟩

/-- The bins the kernel stores: those of the pairs that count, minus one elsewhere. -/
theorem bins_apply (hd : ∀ i j, 0 ≤ d (ix2 i j)) (i j : Fin 512) (b : ℕ) (hb : b < 28) :
    k0_pay10 d (k0_pay5 x2) x3 (ix2 i j) = Ideal.ofBits .bf16 (word b)
      ↔ near |ρ i - ρ' j| (d (ix2 i j)) ∧ b = bin (d (ix2 i j)) := by
  have key : k0_pay10 d (k0_pay5 x2) x3 (ix2 i j)
      = Scalar.select (k0_pay6 d (k0_pay5 x2) x3 (ix2 i j))
        (Ideal.liftRound Int.floor (min (d (ix2 i j) * (Named.named κ "inv_bin" 0x3FB6DB6E#32 : Ideal .f32)) (Ideal.ofBits .f32 0x41D80000#32)))
        (Ideal.ofBits .f32 0xBF800000#32) := by
    pointwise [k0_pay10, k0_pay8, k0_pay7]
  rw [key, b_word b hb, named_inv, w_last, w_neg]
  unfold Scalar.select
  by_cases hn : near |ρ i - ρ' j| (d (ix2 i j))
  · rw [if_pos ((mask_iff d x2 x3 ρ ρ' h2 h3 i j).mpr hn), floor_eq (hd i j) hn]
    constructor
    · intro h
      refine ⟨hn, ?_⟩
      have h' : ((bin (d (ix2 i j)) : ℕ) : ℝ) = ((b : ℕ) : ℝ) := by exact_mod_cast h
      exact (Nat.cast_injective h').symm
    · intro h; rw [h.2]
  · rw [if_neg (fun h => hn ((mask_iff d x2 x3 ρ ρ' h2 h3 i j).mp h))]
    constructor
    · intro h
      have h' : (-1 : ℝ) = ((b : ℕ) : ℝ) := by exact_mod_cast h
      have : (0 : ℝ) ≤ ((b : ℕ) : ℝ) := Nat.cast_nonneg b
      linarith
    · intro h; exact absurd h.1 hn

/-- The scaled fractional parts of the pairs that count. -/
theorem frac_apply (hd : ∀ i j, 0 ≤ d (ix2 i j)) (v1 v3 : Elt Ideal .i32) (sc : ℝ)
    (hsc : k0_pay9 (F := Ideal) v1 v3 = ((sc : ℝ) : EReal)) (i j : Fin 512)
    (hn : near |ρ i - ρ' j| (d (ix2 i j))) :
    k0_pay11 v1 v3 d (k0_pay5 x2) x3 (ix2 i j) = ((sc * frac (d (ix2 i j)) : ℝ) : EReal) := by
  have key : k0_pay11 v1 v3 d (k0_pay5 x2) x3 (ix2 i j)
      = Scalar.select (k0_pay6 d (k0_pay5 x2) x3 (ix2 i j)) (k0_pay9 (F := Ideal) v1 v3) (0 : EReal)
        * (d (ix2 i j) * (Named.named κ "inv_bin" 0x3FB6DB6E#32 : Ideal .f32)
          - Ideal.liftRound Int.floor (min (d (ix2 i j) * (Named.named κ "inv_bin" 0x3FB6DB6E#32 : Ideal .f32)) (Ideal.ofBits .f32 0x41D80000#32))) := by
    pointwise [k0_pay11, k0_pay8, k0_pay7]
  rw [key, named_inv, w_last, hsc]
  unfold Scalar.select
  rw [if_pos ((mask_iff d x2 x3 ρ ρ' h2 h3 i j).mpr hn), floor_eq (hd i j) hn, frac_eq (hd i j) hn, EReal.coe_mul]

end pair

/-- A sum of numbers is a number. -/
theorem coe_sum {ι : Type} [Fintype ι] (f : ι → ℝ) : ∑ x, ((f x : ℝ) : EReal) = ((∑ x, f x : ℝ) : EReal) := by
  induction (Finset.univ : Finset ι) using Finset.cons_induction with
  | empty => simp
  | cons a s ha ih => rw [Finset.sum_cons, Finset.sum_cons, ih, EReal.coe_add]

/-- The product with the one-hot matrix, at an index. -/
theorem dot_apply (tit : Vec Ideal S32x512 .bf16) (x : FVec Ideal S512x512 .bf16) (τ : Fin 32 → Fin 512 → ℝ)
    (hτ : ∀ s i, tit (ix2 s i) = ((τ s i : ℝ) : EReal)) (f : Fin 512 → Fin 512 → ℝ)
    (hf : ∀ i j, x (ix2 i j) = ((f i j : ℝ) : EReal)) (s : Fin 32) (j : Fin 512) :
    dot tit x (ix2 s j) = ((∑ i, τ s i * f i j : ℝ) : EReal) := by
  have key : dot tit x (ix2 s j) = ∑ i, tit (ix2 s i) * x (ix2 i j) := by
    pointwise [dot]
  rw [key, ← coe_sum]
  exact Finset.sum_congr rfl fun i _ => by rw [hτ, hf, EReal.coe_mul]

section point
variable (v1 v3 : Elt Ideal .i32) (x0 : Vec Ideal S512x8 .f32) (x1 : Vec Ideal S8x512 .f32) (x2 : Vec Ideal S512x1 .f32)
  (x3 : Vec Ideal S1x512 .f32) (x4 : Vec Ideal S32x512 .bf16) (x5 : Vec Ideal S512x32 .bf16)
  (ρ ρ' : Fin 512 → ℝ) (h2 : ∀ i, x2 (ix2 i 0) = ((ρ i : ℝ) : EReal)) (h3 : ∀ j, x3 (ix2 0 j) = ((ρ' j : ℝ) : EReal))
  (d : FVec Ideal S512x512 .f32) (hd : ∀ i j, 0 ≤ d (ix2 i j))
  (τ : Fin 32 → Fin 512 → ℝ) (hτ : ∀ s i, x4 (ix2 s i) = ((τ s i : ℝ) : EReal))
  (sc : ℝ) (hsc : k0_pay9 (F := Ideal) v1 v3 = ((sc : ℝ) : EReal))
include h2 h3 hd hτ hsc

/-- The scale of the pairs of bin `b`. -/
theorem whole_apply (b : ℕ) (hb : b < 28) (s : Fin 32) (j : Fin 512) :
    whole x4 (k0_pay10 d (k0_pay5 x2) x3) (k0_pay12 v1 v3) b (ix2 s j)
      = ((∑ i, τ s i * (open Classical in if near |ρ i - ρ' j| (d (ix2 i j)) ∧ b = bin (d (ix2 i j)) then sc else 0) : ℝ) : EReal) := by
  unfold whole
  refine dot_apply x4 _ τ hτ (fun i j => open Classical in if near |ρ i - ρ' j| (d (ix2 i j)) ∧ b = bin (d (ix2 i j)) then sc else 0) (fun i j => ?_) s j
  have key : select (test (k0_pay10 d (k0_pay5 x2) x3) b) (broadcast S512x512 (k0_pay12 v1 v3))
      (broadcast S512x512 (Scalar.ofBits .bf16 0x0000#16)) (ix2 i j)
      = (open Classical in if k0_pay10 d (k0_pay5 x2) x3 (ix2 i j) = Ideal.ofBits .bf16 (word b) then k0_pay9 (F := Ideal) v1 v3 else 0) := by
    generalize k0_pay10 d (k0_pay5 x2) x3 = y
    pointwise [test, k0_pay12]
  rw [key, hsc]
  by_cases h : near |ρ i - ρ' j| (d (ix2 i j)) ∧ b = bin (d (ix2 i j))
  · rw [if_pos ((bins_apply d x2 x3 ρ ρ' h2 h3 hd i j b hb).mpr h), if_pos h]
  · rw [if_neg (fun h' => h ((bins_apply d x2 x3 ρ ρ' h2 h3 hd i j b hb).mp h')), if_neg h, EReal.coe_zero]

/-- The scaled fractional parts of the pairs of bin `b`. -/
theorem part_apply (b : ℕ) (hb : b < 28) (s : Fin 32) (j : Fin 512) :
    part x4 (k0_pay10 d (k0_pay5 x2) x3) (k0_pay11 v1 v3 d (k0_pay5 x2) x3) b (ix2 s j)
      = ((∑ i, τ s i * (open Classical in if near |ρ i - ρ' j| (d (ix2 i j)) ∧ b = bin (d (ix2 i j)) then sc * frac (d (ix2 i j)) else 0) : ℝ) : EReal) := by
  unfold part
  refine dot_apply x4 _ τ hτ (fun i j => open Classical in if near |ρ i - ρ' j| (d (ix2 i j)) ∧ b = bin (d (ix2 i j)) then sc * frac (d (ix2 i j)) else 0) (fun i j => ?_) s j
  have key : select (test (k0_pay10 d (k0_pay5 x2) x3) b) (k0_pay11 v1 v3 d (k0_pay5 x2) x3)
      (broadcast S512x512 (Scalar.ofBits .bf16 0x0000#16)) (ix2 i j)
      = (open Classical in if k0_pay10 d (k0_pay5 x2) x3 (ix2 i j) = Ideal.ofBits .bf16 (word b) then k0_pay11 v1 v3 d (k0_pay5 x2) x3 (ix2 i j) else 0) := by
    generalize k0_pay10 d (k0_pay5 x2) x3 = y
    generalize k0_pay11 v1 v3 d (k0_pay5 x2) x3 = z
    pointwise [test]
  rw [key]
  by_cases h : near |ρ i - ρ' j| (d (ix2 i j)) ∧ b = bin (d (ix2 i j))
  · rw [if_pos ((bins_apply d x2 x3 ρ ρ' h2 h3 hd i j b hb).mpr h), if_pos h,
      frac_apply d x2 x3 ρ ρ' h2 h3 hd v1 v3 sc hsc i j h.1]
  · rw [if_neg (fun h' => h ((bins_apply d x2 x3 ρ ρ' h2 h3 hd i j b hb).mp h')), if_neg h, EReal.coe_zero]

/-- The slab of bin `b`: what the pairs leave to the bin, scaled and summed by the type of their first residue. -/
theorem slab_apply (b : ℕ) (hb : b < 28) (s : Fin 32) (j : Fin 512) :
    slab x4 (k0_pay10 d (k0_pay5 x2) x3) (k0_pay11 v1 v3 d (k0_pay5 x2) x3) (k0_pay12 v1 v3) b (ix2 s j)
      = ((∑ i, τ s i * (sc * weight |ρ i - ρ' j| (d (ix2 i j)) b) : ℝ) : EReal) := by
  have W := fun b hb => whole_apply v1 v3 x2 x3 x4 ρ ρ' h2 h3 d hd τ hτ sc hsc b hb s j
  have P := fun b hb => part_apply v1 v3 x2 x3 x4 ρ ρ' h2 h3 d hd τ hτ sc hsc b hb s j
  rcases b with _ | b
  · have e : slab x4 (k0_pay10 d (k0_pay5 x2) x3) (k0_pay11 v1 v3 d (k0_pay5 x2) x3) (k0_pay12 v1 v3) 0 (ix2 s j)
        = whole x4 (k0_pay10 d (k0_pay5 x2) x3) (k0_pay12 v1 v3) 0 (ix2 s j)
          - part x4 (k0_pay10 d (k0_pay5 x2) x3) (k0_pay11 v1 v3 d (k0_pay5 x2) x3) 0 (ix2 s j) := by
      pointwise [slab]
    rw [e, W 0 hb, P 0 hb, ← EReal.coe_sub, ← Finset.sum_sub_distrib]
    congr 1
    refine Finset.sum_congr rfl fun i _ => ?_
    have hle := bin_le (d (ix2 i j))
    by_cases hn : near |ρ i - ρ' j| (d (ix2 i j))
    · rw [weight_pos hn]
      unfold share
      by_cases h0 : 0 = bin (d (ix2 i j))
      · rw [if_pos ⟨hn, h0⟩, if_pos ⟨hn, h0⟩, if_pos h0, if_neg (by omega)]; ring
      · rw [if_neg (fun h => h0 h.2), if_neg (fun h => h0 h.2), if_neg h0, if_neg (by omega)]; ring
    · rw [weight_neg hn, if_neg (fun h => hn h.1), if_neg (fun h => hn h.1)]; ring
  · by_cases hl : b = 26
    · subst hl
      have e : slab x4 (k0_pay10 d (k0_pay5 x2) x3) (k0_pay11 v1 v3 d (k0_pay5 x2) x3) (k0_pay12 v1 v3) (26 + 1) (ix2 s j)
          = whole x4 (k0_pay10 d (k0_pay5 x2) x3) (k0_pay12 v1 v3) 27 (ix2 s j)
            + part x4 (k0_pay10 d (k0_pay5 x2) x3) (k0_pay11 v1 v3 d (k0_pay5 x2) x3) 26 (ix2 s j) := by
        pointwise [slab]
      rw [e, W 27 (by omega), P 26 (by omega), ← EReal.coe_add, ← Finset.sum_add_distrib]
      congr 1
      refine Finset.sum_congr rfl fun i _ => ?_
      have hle := bin_le (d (ix2 i j))
      by_cases hn : near |ρ i - ρ' j| (d (ix2 i j))
      · rw [weight_pos hn]
        unfold share
        by_cases h0 : 27 = bin (d (ix2 i j))
        · rw [if_pos ⟨hn, h0⟩, if_neg (fun h => absurd h.2 (by omega)), if_pos h0, if_pos (by omega)]; ring
        · by_cases h1 : 26 = bin (d (ix2 i j))
          · rw [if_neg (fun h => h0 h.2), if_pos ⟨hn, h1⟩, if_neg h0, if_pos (by omega)]; ring
          · rw [if_neg (fun h => h0 h.2), if_neg (fun h => h1 h.2), if_neg h0, if_neg (by omega)]; ring
      · rw [weight_neg hn, if_neg (fun h => hn h.1), if_neg (fun h => hn h.1)]; ring
    · have e : slab x4 (k0_pay10 d (k0_pay5 x2) x3) (k0_pay11 v1 v3 d (k0_pay5 x2) x3) (k0_pay12 v1 v3) (b + 1) (ix2 s j)
          = whole x4 (k0_pay10 d (k0_pay5 x2) x3) (k0_pay12 v1 v3) (b + 1) (ix2 s j)
            - part x4 (k0_pay10 d (k0_pay5 x2) x3) (k0_pay11 v1 v3 d (k0_pay5 x2) x3) (b + 1) (ix2 s j)
            + part x4 (k0_pay10 d (k0_pay5 x2) x3) (k0_pay11 v1 v3 d (k0_pay5 x2) x3) b (ix2 s j) := by
        have e' : slab x4 (k0_pay10 d (k0_pay5 x2) x3) (k0_pay11 v1 v3 d (k0_pay5 x2) x3) (k0_pay12 v1 v3) (b + 1)
            = shapeCast S32x512 (addf (subf (whole x4 (k0_pay10 d (k0_pay5 x2) x3) (k0_pay12 v1 v3) (b + 1))
              (part x4 (k0_pay10 d (k0_pay5 x2) x3) (k0_pay11 v1 v3 d (k0_pay5 x2) x3) (b + 1)))
              (part x4 (k0_pay10 d (k0_pay5 x2) x3) (k0_pay11 v1 v3 d (k0_pay5 x2) x3) b)) shapeCasts_S32x512_S32x512 := by
          simp only [slab]
        rw [e']
        pointwise []
      rw [e, W (b + 1) hb, P (b + 1) hb, P b (by omega), ← EReal.coe_sub, ← EReal.coe_add, ← Finset.sum_sub_distrib,
        ← Finset.sum_add_distrib]
      congr 1
      refine Finset.sum_congr rfl fun i _ => ?_
      have hle := bin_le (d (ix2 i j))
      by_cases hn : near |ρ i - ρ' j| (d (ix2 i j))
      · rw [weight_pos hn]
        unfold share
        by_cases h0 : b + 1 = bin (d (ix2 i j))
        · rw [if_pos ⟨hn, h0⟩, if_pos ⟨hn, h0⟩, if_neg (fun h => absurd h.2 (by omega)), if_pos h0, if_neg (by omega)]; ring
        · by_cases h1 : b = bin (d (ix2 i j))
          · rw [if_neg (fun h => h0 h.2), if_neg (fun h => h0 h.2), if_pos ⟨hn, h1⟩, if_neg h0, if_pos (by omega)]; ring
          · rw [if_neg (fun h => h0 h.2), if_neg (fun h => h0 h.2), if_neg (fun h => h1 h.2), if_neg h0, if_neg (by omega)]; ring
      · rw [weight_neg hn, if_neg (fun h => hn h.1), if_neg (fun h => hn h.1), if_neg (fun h => hn h.1)]; ring

omit hd in
/-- The histogram after the point: what the point's pairs leave to each bin is added, by the types of both residues. -/
theorem point_apply (σ : Fin 512 → Fin 32 → ℝ) (hσ : ∀ j s, x5 (ix2 j s) = ((σ j s : ℝ) : EReal))
    (H : Vec Ideal S896x32 .f32) (η : Fin 896 → Fin 32 → ℝ) (hη : ∀ p s, H (ix2 p s) = ((η p s : ℝ) : EReal))
    (p : Fin 896) (s' : Fin 32) :
    point v1 v3 x0 x1 x2 x3 x4 x5 H (ix2 p s')
      = ((η p s' + ∑ j, (∑ i, τ ⟨p.val % 32, Nat.mod_lt _ (by norm_num)⟩ i
          * (sc * weight |ρ i - ρ' j| (dists x0 x1 (ix2 i j)) (p.val / 32))) * σ j s' : ℝ) : EReal) := by
  have hd : ∀ i j, 0 ≤ dists x0 x1 (ix2 i j) := fun i j => by rw [dists_apply]; exact dist_nonneg _ _
  unfold point
  have hu : ∀ j, buffer (slab x4 (k0_pay10 (dists x0 x1) (k0_pay5 x2) x3) (k0_pay11 v1 v3 (dists x0 x1) (k0_pay5 x2) x3)
      (k0_pay12 v1 v3)) (ix2 p j) = ((∑ i, τ ⟨p.val % 32, Nat.mod_lt _ (by norm_num)⟩ i
          * (sc * weight |ρ i - ρ' j| (dists x0 x1 (ix2 i j)) (p.val / 32)) : ℝ) : EReal) := fun j =>
    slab_apply v1 v3 x2 x3 x4 ρ ρ' h2 h3 (dists x0 x1) hd τ hτ sc hsc (p.val / 32) (by have := p.isLt; omega)
      ⟨p.val % 32, Nat.mod_lt _ (by norm_num)⟩ j
  generalize buffer (slab x4 (k0_pay10 (dists x0 x1) (k0_pay5 x2) x3) (k0_pay11 v1 v3 (dists x0 x1) (k0_pay5 x2) x3)
      (k0_pay12 v1 v3)) = us at hu ⊢
  have key : k0_pay117 us x5 x5 H (ix2 p s')
      = H (ix2 p s') + (∑ j, us (ix2 p j) * x5 (ix2 j s') + ∑ j, (us (ix2 p j) - us (ix2 p j)) * x5 (ix2 j s')) := by
    pointwise [k0_pay117]
  rw [key, hη]
  simp only [hu, hσ, ← EReal.coe_sub, ← EReal.coe_mul, coe_sum, ← EReal.coe_add, sub_self, zero_mul,
    Finset.sum_const_zero, add_zero]

end point

end Cert.KernelIdeal.Point
-- ==== Proof.Host.lean ====
/- What the blocks of a grid point hold, in terms of the program's arguments: the coordinates, the residue numbers as
   floats, the one-hot matrices of the types and the table of potentials. -/
module

public import proofs.«01_k».proof.Proof.Table
public import proofs.«01_k».proof.Proof.Point

@[expose] public section

set_option maxRecDepth 16384

noncomputable section

open Idealize.ShloMosaic Idealize.ShloMosaic.TcCoe Idealize.ShloMosaic.StableHlo

namespace Cert.KernelIdeal.Host

open Cert.KernelIdeal Cert.KernelIdeal.Gen Cert.KernelIdeal.Run Cert.KernelIdeal.Slabs

/-- The row block of each grid point. -/
def rowB (t : ℕ) : Fin 8 :=
  ([0, 0, 0, 0, 0, 0, 0, 0, 1, 1, 1, 1, 1, 1, 1, 2, 2, 2, 2, 2, 2, 3, 3, 3, 3, 3, 4, 4, 4, 4, 5, 5, 5, 6, 6, 7] : List (Fin 8)).getD t 0

/-- The column block of each grid point. -/
def colB (t : ℕ) : Fin 8 :=
  ([0, 1, 2, 3, 4, 5, 6, 7, 1, 2, 3, 4, 5, 6, 7, 2, 3, 4, 5, 6, 7, 3, 4, 5, 6, 7, 4, 5, 6, 7, 5, 6, 7, 6, 7, 7] : List (Fin 8)).getD t 0

/-- The place in the chain of a residue of a block. -/
def place (k : Fin 8) (i : Fin 512) : Fin 4096 := ⟨512 * k.val + i.val, by omega⟩

/-- The table's two rows are the two block numbers, read by the index maps and by the kernel. -/
theorem index_row : ∀ t : Fin grid0.N, cc0_transform_0 (F := Ideal) k0_off1_inb numel1_S1x1 Table.pinned (grid0.coords t) = ![(rowB t.val).val, 0] := by
  decide +kernel

/-- The same for the columns. -/
theorem index_col : ∀ t : Fin grid0.N, cc0_transform_1 (F := Ideal) k0_off2_inb numel1_S1x1 Table.pinned (grid0.coords t) = ![0, (colB t.val).val] := by
  decide +kernel

/-- The block of the residue numbers by rows that each grid point reads. -/
theorem index_2 : ∀ t : Fin grid0.N, cc0_transform_2 (F := Ideal) k0_off1_inb numel1_S1x1 Table.pinned (grid0.coords t) = ![(rowB t.val).val, 0] := by
  decide +kernel

/-- The block of the residue numbers by columns that each grid point reads. -/
theorem index_3 : ∀ t : Fin grid0.N, cc0_transform_3 (F := Ideal) k0_off2_inb numel1_S1x1 Table.pinned (grid0.coords t) = ![0, (colB t.val).val] := by
  decide +kernel

/-- The block of the types of the rows that each grid point reads. -/
theorem index_4 : ∀ t : Fin grid0.N, cc0_transform_4 (F := Ideal) k0_off1_inb numel1_S1x1 Table.pinned (grid0.coords t) = ![0, (rowB t.val).val] := by
  decide +kernel

/-- The block of the types of the columns that each grid point reads. -/
theorem index_5 : ∀ t : Fin grid0.N, cc0_transform_5 (F := Ideal) k0_off2_inb numel1_S1x1 Table.pinned (grid0.coords t) = ![(colB t.val).val, 0] := by
  decide +kernel

section arrays
variable (m : (ℓ : Loc nD τ sig) → Buf (Elt Ideal) ℓ) (c : Dev nD)

/-- The coordinates at launch. -/
abbrev coordsOf : Vec Ideal S4096x3 .f32 := m ((c : Thread nD τ).loc main_arg0)
/-- The types at launch. -/
abbrev typesOf : IVec S4096 32 := m ((c : Thread nD τ).loc main_arg1)
/-- The residue numbers at launch. -/
abbrev resOf : IVec S4096 32 := m ((c : Thread nD τ).loc main_arg2)
/-- The potentials at launch. -/
abbrev potOf : Vec Ideal S32x32x28 .f32 := m ((c : Thread nD τ).loc main_arg3)

/-- Whether the residue at a place has a type, as a number. -/
def hot (T : IVec S4096 32) (I : Fin 4096) (s : Fin 32) : ℝ := if T (ix1 I) = BitVec.ofNat 32 s.val then 1 else 0

/-- A residue number as a real number. -/
def num (R : IVec S4096 32) (I : Fin 4096) : ℝ := ((R (ix1 I)).toInt : ℝ)

/-- The padded coordinates. -/
theorem v0_apply (I : Fin 4096) : V m c main_v0 (ix2 I 0) = coordsOf m c (ix2 I 0) ∧
    V m c main_v0 (ix2 I 1) = coordsOf m c (ix2 I 1) ∧ V m c main_v0 (ix2 I 2) = coordsOf m c (ix2 I 2) := by
  unfold V
  refine ⟨?_, ?_, ?_⟩ <;> after_reads_at

/-- The padded coordinates, transposed. -/
theorem v1_apply (I : Fin 4096) : V m c main_v1 (ix2 0 I) = coordsOf m c (ix2 I 0) ∧
    V m c main_v1 (ix2 1 I) = coordsOf m c (ix2 I 1) ∧ V m c main_v1 (ix2 2 I) = coordsOf m c (ix2 I 2) := by
  unfold V
  refine ⟨?_, ?_, ?_⟩ <;> after_reads_at

/-- The residue numbers as a column. -/
theorem v3_apply (I : Fin 4096) : (V m c main_v3 : Vec Ideal S4096x1 .f32) (ix2 I 0) = ((num (resOf m c) I : ℝ) : EReal) := by
  unfold V
  after_reads_at
  rfl

/-- The residue numbers as a row. -/
theorem v4_apply (I : Fin 4096) : (V m c main_v4 : Vec Ideal S1x4096 .f32) (ix2 0 I) = ((num (resOf m c) I : ℝ) : EReal) := by
  unfold V
  after_reads_at
  rfl

/-- A comparison's bit as a number. -/
theorem hot_eq (T : IVec S4096 32) (I : Fin 4096) (s : Fin 32) :
    (FloatOps.uitofp .bf16 (IntOp.cmpi .eq (T (ix1 I)) (BitVec.ofNat 32 s.val)) : Ideal .bf16) = ((hot T I s : ℝ) : EReal) := by
  unfold hot
  show (((IntOp.cmpi .eq (T (ix1 I)) (BitVec.ofNat 32 s.val)).toNat : ℝ) : EReal) = _
  by_cases h : T (ix1 I) = BitVec.ofNat 32 s.val
  · rw [if_pos h, h]; simp [IntOp.cmpi]
  · rw [if_neg h]; simp [IntOp.cmpi, h]

/-- The one-hot matrix of the types, a row for each residue. -/
theorem v11_apply (I : Fin 4096) (s : Fin 32) :
    (V m c main_v11 : Vec Ideal S4096x32 .bf16) (ix2 I s) = ((hot (typesOf m c) I s : ℝ) : EReal) := by
  unfold V
  after_reads_at
  exact hot_eq _ I s

/-- The one-hot matrix of the types, a column for each residue. -/
theorem v12_apply (I : Fin 4096) (s : Fin 32) :
    (V m c main_v12 : Vec Ideal S32x4096 .bf16) (ix2 s I) = ((hot (typesOf m c) I s : ℝ) : EReal) := by
  unfold V
  after_reads_at
  exact hot_eq _ I s

/-- The potentials, a row for each bin and first type. -/
theorem v14_apply (p : Fin 896) (s : Fin 32) :
    (V m c main_v14 : Vec Ideal S896x32 .f32) (ix2 p s)
      = potOf m c (ix3 ⟨p.val % 32, Nat.mod_lt _ (by norm_num)⟩ s ⟨p.val / 32, by have := p.isLt; omega⟩) := by
  unfold V
  after_reads_at

variable (hO : Ok m) (t : Fin (cfgM m hO).N)

/-- The block index of each window. -/
theorem idx0 : ((cfgM m hO).win 0).index t = ![(rowB t.val).val, 0] := by
  show cc0_transform_0 _ _ (tbl m) _ = _
  rw [Table.tbl_eq]; exact index_row t
/-- The block index of the coordinates by columns at each grid point. -/
theorem idx1 : ((cfgM m hO).win 1).index t = ![0, (colB t.val).val] := by
  show cc0_transform_1 _ _ (tbl m) _ = _
  rw [Table.tbl_eq]; exact index_col t
/-- The block index of the residue numbers by rows at each grid point. -/
theorem idx2 : ((cfgM m hO).win 2).index t = ![(rowB t.val).val, 0] := by
  show cc0_transform_2 _ _ (tbl m) _ = _
  rw [Table.tbl_eq]; exact index_2 t
/-- The block index of the residue numbers by columns at each grid point. -/
theorem idx3 : ((cfgM m hO).win 3).index t = ![0, (colB t.val).val] := by
  show cc0_transform_3 _ _ (tbl m) _ = _
  rw [Table.tbl_eq]; exact index_3 t
/-- The block index of the types of the rows at each grid point. -/
theorem idx4 : ((cfgM m hO).win 4).index t = ![0, (rowB t.val).val] := by
  show cc0_transform_4 _ _ (tbl m) _ = _
  rw [Table.tbl_eq]; exact index_4 t
/-- The block index of the types of the columns at each grid point. -/
theorem idx5 : ((cfgM m hO).win 5).index t = ![(colB t.val).val, 0] := by
  show cc0_transform_5 _ _ (tbl m) _ = _
  rw [Table.tbl_eq]; exact index_5 t
/-- The block index of the table of potentials at each grid point. -/
theorem idx6 : ((cfgM m hO).win 6).index t = ![0, 0] := by
  rfl

/-- A row block of the coordinates. -/
theorem blk0 (i : Fin 512) (k : Fin 8) : (iblk m hO c 0 t : Vec Ideal S512x8 .f32) (ix2 i k)
    = V m c main_v0 (ix2 (place (rowB t.val) i) k) := by
  have e := idx0 m hO t
  unfold place
  blk_ext [iblk, e]

/-- A column block of the coordinates. -/
theorem blk1 (i : Fin 512) (k : Fin 8) : (iblk m hO c 1 t : Vec Ideal S8x512 .f32) (ix2 k i)
    = V m c main_v1 (ix2 k (place (colB t.val) i)) := by
  have e := idx1 m hO t
  unfold place
  blk_ext [iblk, e]

/-- A row block of the residue numbers. -/
theorem blk2 (i : Fin 512) : (iblk m hO c 2 t : Vec Ideal S512x1 .f32) (ix2 i 0)
    = ((num (resOf m c) (place (rowB t.val) i) : ℝ) : EReal) := by
  refine Eq.trans ?_ (v3_apply m c _)
  have e := idx2 m hO t
  unfold place
  blk_ext [iblk, e]

/-- A column block of the residue numbers. -/
theorem blk3 (i : Fin 512) : (iblk m hO c 3 t : Vec Ideal S1x512 .f32) (ix2 0 i)
    = ((num (resOf m c) (place (colB t.val) i) : ℝ) : EReal) := by
  refine Eq.trans ?_ (v4_apply m c _)
  have e := idx3 m hO t
  unfold place
  blk_ext [iblk, e]

/-- The one-hot matrix of a row block. -/
theorem blk4 (i : Fin 512) (s : Fin 32) : (iblk m hO c 4 t : Vec Ideal S32x512 .bf16) (ix2 s i)
    = ((hot (typesOf m c) (place (rowB t.val) i) s : ℝ) : EReal) := by
  refine Eq.trans ?_ (v12_apply m c _ s)
  have e := idx4 m hO t
  unfold place
  blk_ext [iblk, e]

/-- The one-hot matrix of a column block. -/
theorem blk5 (i : Fin 512) (s : Fin 32) : (iblk m hO c 5 t : Vec Ideal S512x32 .bf16) (ix2 i s)
    = ((hot (typesOf m c) (place (colB t.val) i) s : ℝ) : EReal) := by
  refine Eq.trans ?_ (v11_apply m c _ s)
  have e := idx5 m hO t
  unfold place
  blk_ext [iblk, e]

/-- The potentials, whole at every point. -/
theorem blk6 (p : Fin 896) (s : Fin 32) : (iblk m hO c 6 t : Vec Ideal S896x32 .f32) (ix2 p s)
    = potOf m c (ix3 ⟨p.val % 32, Nat.mod_lt _ (by norm_num)⟩ s ⟨p.val / 32, by have := p.isLt; omega⟩) := by
  refine Eq.trans ?_ (v14_apply m c p s)
  have e := idx6 m hO t
  blk_ext [iblk, e]

/-- The two block numbers the kernel reads, compared: a half on the diagonal, one elsewhere. -/
def scale (t : ℕ) : ℝ := if rowB t = colB t then 1/2 else 1

/-- The row block number the kernel reads at a middle point. -/
theorem word_row_B : ∀ c : Dev nD, ∀ t : Fin grid0.N,
    kernelRun0_B.sl.r (F := Ideal) c (grid0.coords t) (Table.pinned 0) = BitVec.ofNat 32 (rowB t.val).val := by
  decide +kernel

/-- The column block number the kernel reads at a middle point. -/
theorem word_col_B : ∀ c : Dev nD, ∀ t : Fin grid0.N,
    kernelRun0_B.sl.r_1 (F := Ideal) c (grid0.coords t) (Table.pinned 0) = BitVec.ofNat 32 (colB t.val).val := by
  decide +kernel

/-- The row block number the kernel reads at a first point. -/
theorem word_row_A : ∀ c : Dev nD, ∀ t : Fin grid0.N,
    kernelRun0_A.sl.r (F := Ideal) c (grid0.coords t) (Table.pinned 0) = BitVec.ofNat 32 (rowB t.val).val :=
  word_row_B

/-- The column block number the kernel reads at a first point. -/
theorem word_col_A : ∀ c : Dev nD, ∀ t : Fin grid0.N,
    kernelRun0_A.sl.r_1 (F := Ideal) c (grid0.coords t) (Table.pinned 0) = BitVec.ofNat 32 (colB t.val).val :=
  word_col_B

/-- The row block number the kernel reads at a last point. -/
theorem word_row_C : ∀ c : Dev nD, ∀ t : Fin grid0.N,
    kernelRun0_C.sl.r (F := Ideal) c (grid0.coords t) (Table.pinned 0) = BitVec.ofNat 32 (rowB t.val).val :=
  word_row_B

/-- The column block number the kernel reads at a last point. -/
theorem word_col_C : ∀ c : Dev nD, ∀ t : Fin grid0.N,
    kernelRun0_C.sl.r_1 (F := Ideal) c (grid0.coords t) (Table.pinned 0) = BitVec.ofNat 32 (colB t.val).val :=
  word_col_B

/-- The scale as the kernel chooses it. -/
theorem scale_eq (t : ℕ) : (k0_pay9 (F := Ideal) (BitVec.ofNat 32 (rowB t).val) (BitVec.ofNat 32 (colB t).val) : EReal) = ((scale t : ℝ) : EReal) := by
  unfold k0_pay9 scale
  dsimp only
  show Scalar.select _ (Ideal.ofBits .f32 0x3F000000#32) (Ideal.ofBits .f32 0x3F800000#32) = _
  rw [Consts.w_half, Consts.w_one]
  by_cases h : rowB t = colB t
  · rw [if_pos h, h]; simp [Scalar.select, Scalar.cmpi, IntOp.cmpi]
  · have hn : BitVec.ofNat 32 (rowB t).val ≠ BitVec.ofNat 32 (colB t).val := by
      revert h
      generalize rowB t = a
      generalize colB t = b
      revert a b
      decide
    rw [if_neg h]
    have hb : (BitVec.ofNat 32 (rowB t).val == BitVec.ofNat 32 (colB t).val) = false := by simpa using hn
    simp only [Scalar.select, Scalar.cmpi, IntOp.cmpi, hb]
    rfl

end arrays

end Cert.KernelIdeal.Host
-- ==== Proof.Cases.lean ====
/- What the body leaves in the histogram at each kind of grid point, and in the output at the last one. -/
module

public import proofs.«01_k».proof.Proof.Slabs

@[expose] public section

set_option maxRecDepth 16384

noncomputable section

open Idealize.ShloMosaic Idealize.ShloMosaic.TcCoe

namespace Cert.KernelIdeal.Cases

open Cert.KernelIdeal Cert.KernelIdeal.Gen Cert.KernelIdeal.Run Cert.KernelIdeal.Slabs

variable {F : FTy → Type} [FloatOps F] [Named F]

/-- The histogram read whole is the histogram. -/
theorem read_whole (v : Memref sig .tc .vmem S896x32 .f32) (hv : v.IsWhole) (x : Vec F S896x32 .f32) :
    View.readAt (Elt F) v.view (Rect.unit (s := S896x32) ![0, 0] S896x32.size inb_S896x32_S896x32_0_0).toLoadRect (hv.unread x) = x := by
  rw [View.readAt_eq_ld, Memref.IsWhole.read_unread]
  exact View.ld_unit_zero (S := S896x32) (by decide) _ x

/-- A store of the whole histogram leaves what it stores, whatever was stored before. -/
theorem canon_whole (inb : ∀ a, (![0, 0] : Fin 2 → ℕ) a + S896x32.size a ≤ S896x32.size a) (w : Vec F S896x32 .f32)
    (L : List (View.Piece (Elt F) S896x32 .f32)) :
    View.canon ((⟨Rect.unit (s := S896x32) ![0, 0] S896x32.size inb, w⟩ : View.Piece (Elt F) S896x32 .f32) :: L) = w :=
  View.canon_cons_unit_lit (S := S896x32) inb w L (by decide)

/-- And read back it is what was stored. -/
theorem readCov_whole (v : View sig .tc .vmem S896x32 .f32) (inb : ∀ a, (![0, 0] : Fin 2 → ℕ) a + S896x32.size a ≤ S896x32.size a) (w : Vec F S896x32 .f32) :
    v.readCov [(⟨Rect.unit (s := S896x32) ![0, 0] S896x32.size inb, w⟩ : View.Piece (Elt F) S896x32 .f32)]
      (Rect.unit (s := S896x32) ![0, 0] S896x32.size inb).toLoadRect = w :=
  View.readCov_unit_lit (S := S896x32) v inb w (by decide)

/-- The one cell stored is what is stored. -/
theorem canon_cell (inb : ∀ a, (![0, 0] : Fin 2 → ℕ) a + S1x1.size a ≤ S1x1.size a) (w : Vec F S1x1 .f32) :
    View.canon [(⟨Rect.unit (s := S1x1) ![0, 0] S1x1.size inb, w⟩ : View.Piece (Elt F) S1x1 .f32)] = w :=
  View.canon_cons_unit_lit (S := S1x1) inb w [] (by decide)

/-- The stored histogram is stored as it is. -/
theorem same (w : Vec F S896x32 .f32) : k0_pay1 w = w := by
  unfold k0_pay1
  rw [shapeCast_self]

section cases
variable (c : Dev nD) (i : grid0.Coords) (arg2 : Memref sig .tc .vmem S512x8 .f32) (harg2 : arg2.IsWhole) (arg3 : Memref sig .tc .vmem S8x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S32x512 .bf16) (harg6 : arg6.IsWhole)
  (arg7 : Memref sig .tc .vmem S512x32 .bf16) (harg7 : arg7.IsWhole) (arg8 : Memref sig .tc .vmem S896x32 .f32) (harg8 : arg8.IsWhole) (arg9 : Memref sig .tc .vmem S1x1 .f32) (harg9 : arg9.IsWhole) (arg10 : Memref sig .tc .vmem S896x32 .f32) (harg10 : arg10.IsWhole) (arg11 : Memref sig .tc .vmem S896x512 .f32) (harg11 : arg11.IsWhole)
  (x0 : Vec F S512x8 .f32) (x1 : Vec F S8x512 .f32) (x2 : Vec F S512x1 .f32) (x3 : Vec F S1x512 .f32) (x4 : Vec F S32x512 .bf16) (x5 : Vec F S512x32 .bf16) (x6 : Vec F S896x32 .f32) (xt0 : TbBuf0 (F := F) c tbM0_0) (xs0 : Vec F S896x32 .f32)

/-- A middle point adds its contribution to the histogram. -/
theorem sout_B (hc0 : ¬cond0_0 i) (hc1 : ¬cond0_1 i) : sout0_B_0 c i arg2 harg2 arg3 harg3 arg4 harg4 arg5 harg5 arg6 harg6 arg7 harg7 arg8 harg8 arg9 harg9 arg10 harg10 arg11 harg11 hc0 hc1 x0 x1 x2 x3 x4 x5 x6 xt0 xs0
    = point (kernelRun0_B.sl.r c i xt0) (kernelRun0_B.sl.r_1 c i xt0) x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xt0 xs0)]
  unfold kernelRun0_B
  dsimp only
  rw [raw_B, raw_eq, read_whole]
  rw [same]
  exact canon_whole _ _ _

/-- So does the last point. -/
theorem sout_C (hc0 : ¬cond0_0 i) (hc1 : cond0_1 i) : sout0_C_0 c i arg2 harg2 arg3 harg3 arg4 harg4 arg5 harg5 arg6 harg6 arg7 harg7 arg8 harg8 arg9 harg9 arg10 harg10 arg11 harg11 hc0 hc1 x0 x1 x2 x3 x4 x5 x6 xt0 xs0
    = point (kernelRun0_C.sl.r c i xt0) (kernelRun0_C.sl.r_1 c i xt0) x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xt0 xs0)]
  unfold kernelRun0_C
  dsimp only
  unfold kernelRun0_C.sl.HS0_1
  rw [raw_C, raw_eq, read_whole]
  rw [same]
  exact canon_whole _ _ _

/-- The zeros of the first point. -/
theorem start_A : kernelRun0_A.sl.v549 (F := F) c arg10 = k0_pay3 := by
  unfold kernelRun0_A.sl.v549 kernelRun0_A.sl.HS0_1
  exact readCov_whole _ _ _

/-- The first point adds its contribution to zeros. -/
theorem sout_A (hc0 : cond0_0 i) (hc1 : ¬cond0_1 i) : sout0_A_0 c i arg2 harg2 arg3 harg3 arg4 harg4 arg5 harg5 arg6 harg6 arg7 harg7 arg8 harg8 arg9 harg9 arg10 harg10 arg11 harg11 hc0 hc1 x0 x1 x2 x3 x4 x5 x6 xt0
    = point (kernelRun0_A.sl.r c i xt0) (kernelRun0_A.sl.r_1 c i xt0) x0 x1 x2 x3 x4 x5 k0_pay3 := by
  rw [← start_A c arg10]
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 xt0)]
  unfold kernelRun0_A
  dsimp only
  rw [raw_A, raw_eq, same]
  exact canon_whole _ _ _

/-- What the last point writes out. -/
theorem out_C (hc0 : ¬cond0_0 i) (hc1 : cond0_1 i) : out0_C_7 c i arg2 harg2 arg3 harg3 arg4 harg4 arg5 harg5 arg6 harg6 arg7 harg7 arg8 harg8 arg9 harg9 arg10 harg10 arg11 harg11 hc0 hc1 x0 x1 x2 x3 x4 x5 x6 xt0 xs0
    = k0_pay2 (point (kernelRun0_C.sl.r c i xt0) (kernelRun0_C.sl.r_1 c i xt0) x0 x1 x2 x3 x4 x5 xs0) x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xt0 xs0)]
  unfold kernelRun0_C
  dsimp only
  rw [read_whole]
  refine (canon_cell _ _).trans ?_
  unfold kernelRun0_C.sl.v557 kernelRun0_C.sl.HS0_1
  rw [readCov_whole, same, raw_C, raw_eq, read_whole]

end cases

end Cert.KernelIdeal.Cases
-- ==== Proof.Hist.lean ====
/- The histogram after each grid point: a real number at every bin and pair of types, the sum of what the points so far
   have added. -/
module

public import proofs.«01_k».proof.Proof.Host
public import proofs.«01_k».proof.Proof.Cases

@[expose] public section

set_option maxRecDepth 16384

noncomputable section

open Idealize.ShloMosaic Idealize.ShloMosaic.TcCoe

namespace Cert.KernelIdeal.Hist

open Cert.KernelIdeal Cert.KernelIdeal.Gen Cert.KernelIdeal.Run Cert.KernelIdeal.Slabs Cert.KernelIdeal.Host Cert.KernelIdeal.Cases

/-- The distance of two residues. -/
def gap (C : Vec Ideal S4096x3 .f32) (I J : Fin 4096) : EReal :=
  Bins.dist ![C (ix2 I 0), C (ix2 I 1), C (ix2 I 2)] ![C (ix2 J 0), C (ix2 J 1), C (ix2 J 2)]

/-- What a pair of residues gives to bin `b`. -/
def give (C : Vec Ideal S4096x3 .f32) (R : IVec S4096 32) (I J : Fin 4096) (b : ℕ) : ℝ :=
  Bins.weight |num R I - num R J| (gap C I J) b

/-- What a grid point adds to the histogram at bin `p / 32`, first type `p % 32` and second type `s`. -/
def add (C : Vec Ideal S4096x3 .f32) (T R : IVec S4096 32) (t : ℕ) (p : Fin 896) (s : Fin 32) : ℝ :=
  ∑ j, (∑ i, hot T (place (rowB t) i) ⟨p.val % 32, Nat.mod_lt _ (by norm_num)⟩
    * (scale t * give C R (place (rowB t) i) (place (colB t) j) (p.val / 32))) * hot T (place (colB t) j) s

variable (m : (ℓ : Loc nD τ sig) → Buf (Elt Ideal) ℓ) (c : Dev nD) (hO : Ok m)

/-- One point over a real histogram, whatever blocks it reads: the point's addition. -/
theorem point_blocks (C : Vec Ideal S4096x3 .f32) (T R : IVec S4096 32) (t : ℕ)
    (x0 : Vec Ideal S512x8 .f32) (x1 : Vec Ideal S8x512 .f32) (x2 : Vec Ideal S512x1 .f32) (x3 : Vec Ideal S1x512 .f32)
    (x4 : Vec Ideal S32x512 .bf16) (x5 : Vec Ideal S512x32 .bf16)
    (hx0 : ∀ i, x0 (ix2 i 0) = C (ix2 (place (rowB t) i) 0) ∧ x0 (ix2 i 1) = C (ix2 (place (rowB t) i) 1)
      ∧ x0 (ix2 i 2) = C (ix2 (place (rowB t) i) 2))
    (hx1 : ∀ j, x1 (ix2 0 j) = C (ix2 (place (colB t) j) 0) ∧ x1 (ix2 1 j) = C (ix2 (place (colB t) j) 1)
      ∧ x1 (ix2 2 j) = C (ix2 (place (colB t) j) 2))
    (hx2 : ∀ i, x2 (ix2 i 0) = ((num R (place (rowB t) i) : ℝ) : EReal))
    (hx3 : ∀ j, x3 (ix2 0 j) = ((num R (place (colB t) j) : ℝ) : EReal))
    (hx4 : ∀ i s, x4 (ix2 s i) = ((hot T (place (rowB t) i) s : ℝ) : EReal))
    (hx5 : ∀ j s, x5 (ix2 j s) = ((hot T (place (colB t) j) s : ℝ) : EReal))
    (H : Vec Ideal S896x32 .f32) (η : Fin 896 → Fin 32 → ℝ) (hη : ∀ p s, H (ix2 p s) = ((η p s : ℝ) : EReal))
    (v1 v3 : Elt Ideal .i32) (h1 : v1 = BitVec.ofNat 32 (rowB t).val) (h3 : v3 = BitVec.ofNat 32 (colB t).val)
    (p : Fin 896) (s : Fin 32) :
    point (F := Ideal) v1 v3 x0 x1 x2 x3 x4 x5 H (ix2 p s) = ((η p s + add C T R t p s : ℝ) : EReal) := by
  subst h1 h3
  have hd : ∀ i j, dists (F := Ideal) x0 x1 (ix2 i j) = gap C (place (rowB t) i) (place (colB t) j) := fun i j => by
    rw [Point.dists_apply]
    unfold gap
    rw [(hx0 i).1, (hx0 i).2.1, (hx0 i).2.2, (hx1 j).1, (hx1 j).2.1, (hx1 j).2.2]
  rw [Point.point_apply (BitVec.ofNat 32 (rowB t).val) (BitVec.ofNat 32 (colB t).val) x0 x1 x2 x3 x4 x5
    (fun i => num R (place (rowB t) i)) (fun j => num R (place (colB t) j)) hx2 hx3
    (fun s i => hot T (place (rowB t) i) s) (fun s i => hx4 i s)
    (scale t) (scale_eq t) (fun j s => hot T (place (colB t) j) s) hx5 H η hη p s]
  simp only [hd]
  rfl

/-- The same of the blocks the pipeline hands a grid point. -/
theorem point_real (t : Fin (cfgM m hO).N) (H : Vec Ideal S896x32 .f32) (η : Fin 896 → Fin 32 → ℝ)
    (hη : ∀ p s, H (ix2 p s) = ((η p s : ℝ) : EReal)) (v1 v3 : Elt Ideal .i32)
    (h1 : v1 = BitVec.ofNat 32 (rowB t.val).val) (h3 : v3 = BitVec.ofNat 32 (colB t.val).val) (p : Fin 896) (s : Fin 32) :
    point (F := Ideal) v1 v3 (iblk m hO c 0 t) (iblk m hO c 1 t) (iblk m hO c 2 t) (iblk m hO c 3 t) (iblk m hO c 4 t) (iblk m hO c 5 t) H (ix2 p s)
      = ((η p s + add (coordsOf m c) (typesOf m c) (resOf m c) t.val p s : ℝ) : EReal) :=
  point_blocks _ _ _ t.val _ _ _ _ _ _
    (fun i => ⟨(blk0 m c hO t i 0).trans (v0_apply m c _).1, (blk0 m c hO t i 1).trans (v0_apply m c _).2.1,
      (blk0 m c hO t i 2).trans (v0_apply m c _).2.2⟩)
    (fun i => ⟨(blk1 m c hO t i 0).trans (v1_apply m c _).1, (blk1 m c hO t i 1).trans (v1_apply m c _).2.1,
      (blk1 m c hO t i 2).trans (v1_apply m c _).2.2⟩)
    (blk2 m c hO t) (blk3 m c hO t) (blk4 m c hO t) (blk5 m c hO t) H η hη v1 v3 h1 h3 p s

/-- The zeros the first point starts from. -/
theorem start (p : Fin 896) (s : Fin 32) : (k0_pay3 (F := Ideal)) (ix2 p s) = ((0 : ℝ) : EReal) := by
  have key : (k0_pay3 (F := Ideal)) (ix2 p s) = Ideal.ofBits .f32 0x00000000#32 := by
    pointwise [k0_pay3]
  rw [key, Consts.w_zero]

/-- The histogram after each point. -/
theorem hist_eq : ∀ (n : ℕ) (h : n < (cfgM m hO).N) (p : Fin 896) (s : Fin 32), (outsAt0 m hO c n h).2 (ix2 p s)
    = ((∑ t ∈ Finset.range (n + 1), add (coordsOf m c) (typesOf m c) (resOf m c) t p s : ℝ) : EReal)
  | 0, h, p, s => by
    rw [outsAt0_A m hO c ⟨0, h⟩ (by rfl) (show ¬ 0 % 36 = 35 by decide)]
    dsimp only
    refine (congrFun (sout_A ..) (ix2 p s)).trans ?_
    refine (point_real m c hO ⟨0, h⟩ _ (fun _ _ => 0) start _ _ ?_ ?_ p s).trans ?_
    · rw [Table.tbl_eq]; exact word_row_A c ⟨0, h⟩
    · rw [Table.tbl_eq]; exact word_col_A c ⟨0, h⟩
    · rw [Finset.sum_range_one, zero_add]
  | n + 1, h, p, s => by
    have hN : n + 1 < 36 := lt_of_lt_of_eq h (show (cfgM m hO).N = 36 from N_0)
    have h0 : ¬(⟨n + 1, h⟩ : Fin (cfgM m hO).N).val % 36 = 0 := by dsimp only; omega
    rw [Finset.sum_range_succ]
    by_cases h1 : (⟨n + 1, h⟩ : Fin (cfgM m hO).N).val % 36 = 35
    · rw [outsAt0_C m hO c ⟨n + 1, h⟩ h0 h1]
      dsimp only
      refine (congrFun (sout_C ..) (ix2 p s)).trans ?_
      refine point_real m c hO ⟨n + 1, h⟩ _ _ (hist_eq n (Nat.lt_of_succ_lt h)) _ _ ?_ ?_ p s
      · rw [Table.tbl_eq]; exact word_row_C c ⟨n + 1, h⟩
      · rw [Table.tbl_eq]; exact word_col_C c ⟨n + 1, h⟩
    · rw [outsAt0_B m hO c ⟨n + 1, h⟩ h0 h1]
      dsimp only
      refine (congrFun (sout_B ..) (ix2 p s)).trans ?_
      refine point_real m c hO ⟨n + 1, h⟩ _ _ (hist_eq n (Nat.lt_of_succ_lt h)) _ _ ?_ ?_ p s
      · rw [Table.tbl_eq]; exact word_row_B c ⟨n + 1, h⟩
      · rw [Table.tbl_eq]; exact word_col_B c ⟨n + 1, h⟩

/-- The total of the histogram against the potentials. -/
theorem total_apply (H x6 : Vec Ideal S896x32 .f32) :
    (k0_pay2 (F := Ideal) H x6) (ix2 0 0) = ∑ p : Fin 896, ∑ s : Fin 32, H (ix2 p s) * x6 (ix2 p s) := by
  pointwise [k0_pay2]

end Cert.KernelIdeal.Hist
-- ==== Proof.Final.lean ====
/- What the run leaves: the result holds the total of the histogram against the potentials, and the arguments are
   unchanged. -/
module

public import proofs.«01_k».proof.Proof.Hist

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Run Cert.KernelIdeal.Slabs Cert.KernelIdeal.Host
open Cert.KernelIdeal.Cases Cert.KernelIdeal.Hist

/-- The histogram of all the points, weighed by the potentials. -/
def total (C : Vec Ideal S4096x3 .f32) (T R : IVec S4096 32) (P : Fin 32 → Fin 32 → Fin 28 → ℝ) : ℝ :=
  ∑ p : Fin 896, ∑ s : Fin 32, (∑ t ∈ Finset.range 36, add C T R t p s)
    * P ⟨p.val % 32, Nat.mod_lt _ (by norm_num)⟩ s ⟨p.val / 32, by have := p.isLt; omega⟩

variable (m : (ℓ : Loc nD τ sig) → Buf (Elt Ideal) ℓ) (ρ : Dev nD → PrngReg) (c : Dev nD) (hO : Ok m)
variable (P : Fin 32 → Fin 32 → Fin 28 → ℝ) (hP : ∀ a b k, potOf m c (ix3 a b k) = ((P a b k : ℝ) : EReal))

/-- The last grid point. -/
def last : Fin (cfgM m hO).N := ⟨35, lt_of_lt_of_eq (by norm_num) (show 36 = (cfgM m hO).N from N_0.symm)⟩

/-- Real histogram and real potentials: the total is real. -/
theorem total_real (H x6 : Vec Ideal S896x32 .f32) (η π : Fin 896 → Fin 32 → ℝ)
    (hη : ∀ p s, H (ix2 p s) = ((η p s : ℝ) : EReal)) (hπ : ∀ p s, x6 (ix2 p s) = ((π p s : ℝ) : EReal)) (y : S1x1.Idx) :
    (k0_pay2 (F := Ideal) H x6) y = ((∑ p, ∑ s, η p s * π p s : ℝ) : EReal) := by
  have hy : y = ix2 0 0 := by
    funext a; fin_cases a <;> exact Subsingleton.elim (α := Fin 1) _ _
  rw [hy, total_apply]
  simp only [hη, hπ, ← EReal.coe_mul, Point.coe_sum]

include hP in
/-- What the last point writes out. -/
theorem out_eq (y : S1x1.Idx) : (outsAt0 m hO c (last m hO).val (last m hO).isLt).1 y
    = ((total (coordsOf m c) (typesOf m c) (resOf m c) P : ℝ) : EReal) := by
  rw [outsAt0_C m hO c (last m hO) (show ¬ 35 % 36 = 0 by decide) (show 35 % 36 = 35 by decide)]
  dsimp only
  refine (congrFun (out_C ..) y).trans ?_
  refine total_real _ _ _ (fun p s => P ⟨p.val % 32, Nat.mod_lt _ (by norm_num)⟩ s ⟨p.val / 32, by have := p.isLt; omega⟩) (fun p s => ?_)
    (fun p s => (blk6 m c hO (last m hO) p s).trans (hP _ _ _)) y
  refine (point_real m c hO (last m hO) _ _ (hist_eq m c hO 34 _) _ _ ?_ ?_ p s).trans ?_
  · rw [Table.tbl_eq]; exact word_row_C c (last m hO)
  · rw [Table.tbl_eq]; exact word_col_C c (last m hO)
  · exact congrArg _ (Finset.sum_range_succ (fun t => add (coordsOf m c) (typesOf m c) (resOf m c) t p s) 35).symm

/-- The output is written back at the last point only, whole. -/
theorem whole_out : ((cfgM m hO).win 7).WholeAt (last m hO) := by
  refine ⟨(flush0_7 _ _).mpr rfl, fun t h => ?_, fun a => ?_⟩
  · have h1 := (flush0_7 _ _).mp h
    have h2 : t.val < 36 := lt_of_lt_of_eq t.isLt (show (cfgM m hO).N = 36 from N_0)
    exact Fin.ext (show t.val = 35 by omega)
  · fin_cases a <;> exact ⟨rfl, rfl⟩

include hP in
/-- The output array after the region. -/
theorem final : (dats m hO 0 c).arrAt 7 (cfgM m hO).N = fun _ => ((total (coordsOf m c) (typesOf m c) (resOf m c) P : ℝ) : EReal) := by
  refine (dats m hO 0 c).arrAt_eq_of_after_last 7 (last m hO) (whole_out m hO) _ fun j => ?_
  rw [after0_7]
  exact out_eq m c hO P hP _

include hP in
/-- The result after the host's last operation. -/
theorem result : Pipeline.afterTail pcfgs (fun _ => adm m hO) (dats m hO) 0 (V0 m) [hostOps1] c main_v15
    = fun _ => ((total (coordsOf m c) (typesOf m c) (resOf m c) P : ℝ) : EReal) := by
  unfold Pipeline.afterTail
  funext j
  after_reads_at
  refine (congrFun (Pipeline.withArrays_arr spec0 (by decide) c (V0 m c) _ (7 : Fin 8)) (ix2 0 0)).trans ?_
  exact congrFun (final m c hO P hP) _

include hO in
/-- The run: on every device the result holds the total, and the arguments are unchanged. -/
theorem run (P : Dev nD → Fin 32 → Fin 32 → Fin 28 → ℝ) (hP : ∀ c a b k, potOf m c (ix3 a b k) = ((P c a b k : ℝ) : EReal)) :
    θ_run defs (onTc (τ := τ) (main (F := Ideal))) ⟨m, fun _ => 0, ρ⟩ fun r => ∀ c : Dev nD,
      r.2.mem ((c : Thread nD τ).loc main_v15) = (fun _ => ((total (coordsOf m c) (typesOf m c) (resOf m c) (P c) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).2 main_v15 (by decide : main_v15 ∈ Pipeline.restRefs sig spec0)).trans
      (result m c hO (P c) (hP c)), h.2 c⟩)
    (θ_run_and (run_main m ρ hO) (unchanged m ρ hO))

end Cert.KernelIdeal.Final
-- ==== Proof.PairSum.lean ====
/- The sum over grid points as a sum over pairs of residues: the 36 pairs of blocks on and above the diagonal, the
   diagonal ones halved, add up to the sum over the pairs of residues in order. -/
module

public import proofs.«01_k».proof.Proof.Final

@[expose] public section

set_option maxRecDepth 16384

noncomputable section

open Idealize.ShloMosaic Idealize.ShloMosaic.TcCoe

namespace Cert.PairSum

open Cert.KernelIdeal Cert.KernelIdeal.Host Cert.KernelIdeal.Hist Cert.KernelIdeal.Final

/-- Weights that add up to one over the two orders of a pair take half of a symmetric sum. -/
theorem half {ι : Type} [Fintype ι] (G c : ι → ι → ℝ) (hG : ∀ i j, G i j = G j i)
    (hc : ∀ i j, (c i j + c j i) * G i j = G i j) : 2 * ∑ i, ∑ j, c i j * G i j = ∑ i, ∑ j, G i j := by
  have h : ∑ i, ∑ j, c i j * G i j = ∑ i, ∑ j, c j i * G i j := by
    rw [Finset.sum_comm]
    refine Finset.sum_congr rfl fun i _ => Finset.sum_congr rfl fun j _ => ?_
    rw [hG j i]
  rw [two_mul]
  conv_lhs => rw [h]
  conv_lhs => arg 1; rw [← h]
  rw [← Finset.sum_add_distrib]
  refine Finset.sum_congr rfl fun i _ => ?_
  rw [← Finset.sum_add_distrib]
  refine Finset.sum_congr rfl fun j _ => ?_
  rw [← add_mul, hc]

/-- The grid points are the pairs of blocks on and above the diagonal, each once. -/
theorem points_image : (Finset.range 36).image (fun t => (rowB t, colB t)) = Finset.univ.filter fun p : Fin 8 × Fin 8 => p.1 ≤ p.2 := by
  decide +kernel

/-- No two grid points take the same pair of blocks. -/
theorem points_inj : ∀ a ∈ Finset.range 36, ∀ b ∈ Finset.range 36, (rowB a, colB a) = (rowB b, colB b) → a = b := by
  decide +kernel

/-- The sum over the grid points, scaled, is half the sum over all pairs of blocks. -/
theorem sum_points (S : Fin 8 → Fin 8 → ℝ) (hS : ∀ k l, S k l = S l k) :
    2 * ∑ t ∈ Finset.range 36, scale t * S (rowB t) (colB t) = ∑ k, ∑ l, S k l := by
  have h1 : ∑ t ∈ Finset.range 36, scale t * S (rowB t) (colB t)
      = ∑ p ∈ Finset.univ.filter (fun p : Fin 8 × Fin 8 => p.1 ≤ p.2), (if p.1 = p.2 then 1/2 else 1) * S p.1 p.2 := by
    rw [← points_image, Finset.sum_image (fun a ha b hb => points_inj a ha b hb)]
    rfl
  have h2 : ∑ p ∈ Finset.univ.filter (fun p : Fin 8 × Fin 8 => p.1 ≤ p.2), (if p.1 = p.2 then 1/2 else 1) * S p.1 p.2
      = ∑ k, ∑ l, (if k = l then 1/2 else if k < l then 1 else 0) * S k l := by
    rw [Finset.sum_filter, Fintype.sum_prod_type]
    refine Finset.sum_congr rfl fun k _ => Finset.sum_congr rfl fun l _ => ?_
    dsimp only
    by_cases h : k = l
    · simp [h]
    · by_cases hl : k < l
      · simp [h, hl, hl.le]
      · have : ¬ k ≤ l := fun hc => hl (lt_of_le_of_ne hc h)
        simp [h, hl, this]
  rw [h1, h2]
  refine half S (fun k l => if k = l then 1/2 else if k < l then 1 else 0) hS fun k l => ?_
  rcases lt_trichotomy k l with h | h | h
  · simp [h, h.ne, h.ne', h.not_gt]
  · subst h; norm_num
  · simp [h, h.ne, h.ne', h.not_gt]

/-- A sum over the residues, block by block. -/
theorem sum_place (g : Fin 4096 → ℝ) : ∑ k, ∑ i, g (place k i) = ∑ I, g I := by
  rw [← Fintype.sum_prod_type']
  refine Fintype.sum_equiv (finProdFinEquiv (m := 8) (n := 512)) _ _ fun x => congrArg g ?_
  apply Fin.ext
  show 512 * x.1.val + x.2.val = x.2.val + 512 * x.1.val
  omega

/-- The scaled sum over the blocks of the grid points is the sum over the residues in order. -/
theorem sum_pairs (f : Fin 4096 → Fin 4096 → ℝ) (hf : ∀ I J, f I J = f J I) (h0 : ∀ I, f I I = 0) :
    ∑ t ∈ Finset.range 36, scale t * ∑ i, ∑ j, f (place (rowB t) i) (place (colB t) j)
      = ∑ I, ∑ J, if I < J then f I J else 0 := by
  have h1 := sum_points (fun k l => ∑ i, ∑ j, f (place k i) (place l j)) fun k l => by
    rw [Finset.sum_comm]
    exact Finset.sum_congr rfl fun i _ => Finset.sum_congr rfl fun j _ => hf _ _
  have h2 := half f (fun I J => if I < J then 1 else 0) hf fun I J => by
    rcases lt_trichotomy I J with h | h | h
    · simp [h, h.not_gt]
    · subst h; simp [h0]
    · simp [h, h.not_gt]
  have h3 : ∑ k, ∑ l, ∑ i, ∑ j, f (place k i) (place l j) = ∑ I, ∑ J, f I J := by
    rw [← sum_place]
    refine Finset.sum_congr rfl fun k _ => ?_
    rw [Finset.sum_comm]
    refine Finset.sum_congr rfl fun i _ => ?_
    exact sum_place _
  have h4 : ∑ I, ∑ J, (if I < J then (1 : ℝ) else 0) * f I J = ∑ I, ∑ J, if I < J then f I J else 0 := by
    refine Finset.sum_congr rfl fun I _ => Finset.sum_congr rfl fun J _ => ?_
    split <;> simp
  rw [h4] at h2
  linarith

/-- What a pair of residues gives in all. -/
def pair (C : Vec Ideal S4096x3 .f32) (T R : IVec S4096 32) (P : Fin 32 → Fin 32 → Fin 28 → ℝ) (I J : Fin 4096) : ℝ :=
  ∑ p : Fin 896, ∑ s : Fin 32, hot T I ⟨p.val % 32, Nat.mod_lt _ (by norm_num)⟩ * give C R I J (p.val / 32) * hot T J s
    * P ⟨p.val % 32, Nat.mod_lt _ (by norm_num)⟩ s ⟨p.val / 32, by have := p.isLt; omega⟩

/-- A third sum taken out of two. -/
theorem pull {α β γ : Type} [Fintype α] [Fintype β] (A : Finset γ) (g : α → β → γ → ℝ) :
    ∑ p, ∑ s, ∑ t ∈ A, g p s t = ∑ t ∈ A, ∑ p, ∑ s, g p s t := by
  rw [Finset.sum_congr rfl fun p _ => Finset.sum_comm, Finset.sum_comm]

/-- The total is the scaled sum of what the pairs give. -/
theorem total_pairs (C : Vec Ideal S4096x3 .f32) (T R : IVec S4096 32) (P : Fin 32 → Fin 32 → Fin 28 → ℝ) :
    total C T R P = ∑ t ∈ Finset.range 36, scale t * ∑ i, ∑ j, pair C T R P (place (rowB t) i) (place (colB t) j) := by
  have hl : total C T R P = ∑ p : Fin 896, ∑ s : Fin 32, ∑ t ∈ Finset.range 36, ∑ j, ∑ i,
      scale t * (hot T (place (rowB t) i) ⟨p.val % 32, Nat.mod_lt _ (by norm_num)⟩
        * give C R (place (rowB t) i) (place (colB t) j) (p.val / 32) * hot T (place (colB t) j) s
        * P ⟨p.val % 32, Nat.mod_lt _ (by norm_num)⟩ s ⟨p.val / 32, by have := p.isLt; omega⟩) := by
    unfold total
    refine Finset.sum_congr rfl fun p _ => Finset.sum_congr rfl fun s _ => ?_
    rw [Finset.sum_mul]
    refine Finset.sum_congr rfl fun t _ => ?_
    unfold add
    rw [Finset.sum_mul]
    refine Finset.sum_congr rfl fun j _ => ?_
    rw [Finset.sum_mul, Finset.sum_mul]
    refine Finset.sum_congr rfl fun i _ => ?_
    ring
  rw [hl]
  rw [pull]
  refine Finset.sum_congr rfl fun t _ => ?_
  rw [pull, Finset.mul_sum, Finset.sum_congr rfl fun j _ => pull _ _, Finset.sum_comm]
  refine Finset.sum_congr rfl fun i _ => ?_
  rw [Finset.mul_sum]
  refine Finset.sum_congr rfl fun j _ => ?_
  unfold pair
  rw [Finset.mul_sum]
  refine Finset.sum_congr rfl fun p _ => ?_
  rw [Finset.mul_sum]

end Cert.PairSum
-- ==== Proof.Energy.lean ====
/- What one pair of residues gives to the total: the entry of the table between its two bins, if the pair counts and both
   residues have a type. -/
module

public import proofs.«01_k».proof.Proof.PairSum

@[expose] public section

set_option maxRecDepth 16384

noncomputable section

open Idealize.ShloMosaic Idealize.ShloMosaic.TcCoe

namespace Cert.PairSum

open Cert.KernelIdeal Cert.KernelIdeal.Host Cert.KernelIdeal.Hist Cert.KernelIdeal.Final

variable (C : Vec Ideal S4096x3 .f32) (T R : IVec S4096 32) (P : Fin 32 → Fin 32 → Fin 28 → ℝ)

/-- A pair's share, the bins and the types named apart. -/
theorem pair_eq (I J : Fin 4096) : pair C T R P I J
    = ∑ b : Fin 28, ∑ a : Fin 32, ∑ s : Fin 32, hot T I a * give C R I J b.val * hot T J s * P a s b := by
  unfold pair
  rw [← Fintype.sum_prod_type' (fun (b : Fin 28) (a : Fin 32) => ∑ s : Fin 32, hot T I a * give C R I J b.val * hot T J s * P a s b)]
  refine (Fintype.sum_equiv (finProdFinEquiv (m := 28) (n := 32)) _ _ fun x => ?_).symm
  have h1 : (finProdFinEquiv (m := 28) (n := 32) x).val % 32 = x.2.val := by
    show (x.2.val + 32 * x.1.val) % 32 = _
    omega
  have h2 : (finProdFinEquiv (m := 28) (n := 32) x).val / 32 = x.1.val := by
    show (x.2.val + 32 * x.1.val) / 32 = _
    omega
  have e1 : ∀ h, (⟨(finProdFinEquiv (m := 28) (n := 32) x).val % 32, h⟩ : Fin 32) = x.2 := fun _ => Fin.ext h1
  have e2 : ∀ h, (⟨(finProdFinEquiv (m := 28) (n := 32) x).val / 32, h⟩ : Fin 28) = x.1 := fun _ => Fin.ext h2
  refine Finset.sum_congr rfl fun s _ => ?_
  rw [e1, e2, h2]

/-- What a pair gives to a bin does not depend on its order. -/
theorem give_comm (I J : Fin 4096) (b : ℕ) : give C R I J b = give C R J I b := by
  unfold give gap
  rw [abs_sub_comm, Bins.dist_comm]

/-- Nor, the table being symmetric, does what it gives in all. -/
theorem pair_comm (hP : ∀ a s b, P a s b = P s a b) (I J : Fin 4096) : pair C T R P I J = pair C T R P J I := by
  rw [pair_eq, pair_eq]
  refine Finset.sum_congr rfl fun b _ => ?_
  rw [Finset.sum_comm]
  refine Finset.sum_congr rfl fun s _ => Finset.sum_congr rfl fun a _ => ?_
  rw [give_comm C R I J, hP a s b]
  ring

/-- A residue is no pair with itself. -/
theorem pair_self (I : Fin 4096) : pair C T R P I I = 0 := by
  rw [pair_eq]
  refine Finset.sum_eq_zero fun b _ => Finset.sum_eq_zero fun a _ => Finset.sum_eq_zero fun s _ => ?_
  have : give C R I I b.val = 0 := Bins.weight_neg (fun h => by have := h.1; simp at this; linarith) _
  rw [this]; ring

/-- A pair too close in the chain or too far in space gives nothing. -/
theorem pair_far {I J : Fin 4096} (h : ¬ Bins.near |num R I - num R J| (gap C I J)) : pair C T R P I J = 0 := by
  rw [pair_eq]
  refine Finset.sum_eq_zero fun b _ => Finset.sum_eq_zero fun a _ => Finset.sum_eq_zero fun s _ => ?_
  have : give C R I J b.val = 0 := Bins.weight_neg h _
  rw [this]; ring

/-- A pair with a residue of no type gives nothing. -/
theorem pair_untyped {I J : Fin 4096} (h : (∀ a, hot T I a = 0) ∨ ∀ a, hot T J a = 0) : pair C T R P I J = 0 := by
  rw [pair_eq]
  refine Finset.sum_eq_zero fun b _ => Finset.sum_eq_zero fun a _ => Finset.sum_eq_zero fun s _ => ?_
  rcases h with h | h <;> rw [h] <;> ring

/-- Any other pair gives the entry of its types between its two bins. -/
theorem pair_near {I J : Fin 4096} (h : Bins.near |num R I - num R J| (gap C I J)) (a s : Fin 32)
    (ha : ∀ x, hot T I x = if x = a then 1 else 0) (hs : ∀ x, hot T J x = if x = s then 1 else 0) :
    pair C T R P I J
      = (1 - Bins.frac (gap C I J)) * P a s ⟨Bins.bin (gap C I J), by have := Bins.bin_le (gap C I J); omega⟩
        + Bins.frac (gap C I J) * P a s ⟨min (Bins.bin (gap C I J) + 1) 27, by omega⟩ := by
  rw [pair_eq, ← Bins.sum_share (fun b => P a s b) _ (Bins.bin_le _)]
  refine Finset.sum_congr rfl fun b _ => ?_
  rw [Finset.sum_eq_single a, Finset.sum_eq_single s]
  · rw [ha, hs, if_pos rfl, if_pos rfl, one_mul, mul_one]
    exact congrArg (· * _) (Bins.weight_pos h _)
  · intro x _ hx
    rw [hs, if_neg hx]; ring
  · intro hx; exact absurd (Finset.mem_univ _) hx
  · intro x _ hx
    refine Finset.sum_eq_zero fun y _ => ?_
    rw [ha, if_neg hx]; ring
  · intro hx; exact absurd (Finset.mem_univ _) hx

/-- The total is the sum over the pairs in order. -/
theorem total_eq (hP : ∀ a s b, P a s b = P s a b) :
    total C T R P = ∑ I, ∑ J, if I < J then pair C T R P I J else 0 := by
  rw [total_pairs, sum_pairs _ (pair_comm C T R P hP) (pair_self C T R P)]

/-- A residue of type -1 has no type. -/
theorem hot_none {I : Fin 4096} (h : (T (ix1 I)).toInt = -1) (a : Fin 32) : hot T I a = 0 := by
  unfold hot
  refine if_neg fun hc => ?_
  rw [hc] at h
  clear hc
  revert h; revert a; decide

/-- A residue of a type from 0 to 31 has that type alone. -/
theorem hot_some {I : Fin 4096} (a : Fin 32) (h : T (ix1 I) = BitVec.ofNat 32 a.val) (x : Fin 32) :
    hot T I x = if x = a then 1 else 0 := by
  unfold hot
  rw [h]
  have : BitVec.ofNat 32 a.val = BitVec.ofNat 32 x.val ↔ x = a := by
    clear h
    revert a x; decide
  simp only [this]

/-- The types the precondition allows. -/
theorem type_cases {I : Fin 4096} (h1 : (-1 : ℤ) ≤ (T (ix1 I)).toInt) (h2 : (T (ix1 I)).toInt < 32) :
    (T (ix1 I)).toInt = -1 ∨ ∃ a : Fin 32, T (ix1 I) = BitVec.ofNat 32 a.val := by
  rcases lt_or_ge (T (ix1 I)).toInt 0 with h | h
  · left; omega
  · right
    refine ⟨⟨(T (ix1 I)).toInt.toNat, by omega⟩, ?_⟩
    apply BitVec.eq_of_toInt_eq
    rw [BitVec.toInt_ofNat']
    simp only [Int.bmod]
    omega

end Cert.PairSum
-- ==== Proof.Pre.lean ====
/- What the precondition says of the arguments: types from -1 to 31, residue numbers from zero, potentials finite and
   symmetric in the two types. -/
module

public import proofs.«01_k».proof.Defs
public import proofs.«01_k».proof.Proof.Gen.Pre_drawn
public import Idealize.ShloMosaic.Lib.ReduceAll
public import Idealize.ShloMosaic.Lib.Pointwise
public import Idealize.ShloMosaic.PureOps.Ideal

@[expose] public section

set_option maxRecDepth 16384

noncomputable section

open Idealize.ShloMosaic Idealize.ShloMosaic.TcCoe

namespace Cert.Pre

open Cert.Pre_drawn Cert.Pre_drawn.Gen

variable (C : FVec Ideal S4096x3 .f32) (T R : IVec S4096 32) (P : FVec Ideal S32x32x28 .f32)

/-- The one index of a scalar. -/
instance : Subsingleton S_.Idx := ⟨fun a b => funext fun x => x.elim0⟩

/-- The word of infinity. -/
theorem inf_word : Ideal.ofBits .f32 0x7F800000#32 = (⊤ : EReal) := by
  simp [Ideal.ofBits, Ideal.ieee]

/-- The four facts, each at every index. -/
structure Holds : Prop where
  lo : ∀ I : Fin 4096, (-1 : ℤ) ≤ (T (ix1 I)).toInt
  hi : ∀ I : Fin 4096, (T (ix1 I)).toInt < 32
  res : ∀ I : Fin 4096, 0 ≤ (R (ix1 I)).toInt
  fin : ∀ j : S32x32x28.Idx, P j ≠ ⊤ ∧ P j ≠ ⊥
  sym : ∀ (a b : Fin 32) (k : Fin 28), P (ix3 a b k) = P (ix3 b a k)

/-- The precondition gives them. -/
theorem holds (h : Cert.Pre_drawn.fn (F := Ideal) C T R P = fun _ => 1#1) : Holds T R P := by
  have h0 := congrFun h (fun x => x.elim0)
  unfold Cert.Pre_drawn.fn Cert.Pre_drawn.fn_part1 at h0
  dsimp only at h0
  obtain ⟨h1, h4⟩ := IntOp.andi_eq_one.1 h0
  obtain ⟨h1, h3⟩ := IntOp.andi_eq_one.1 h1
  obtain ⟨h1, h2⟩ := IntOp.andi_eq_one.1 h1
  have e1 := fun i => IntOp.andi_eq_one.1 (Host.reduce_andi_all _ _ _ _ _ h1 i)
  have e2 := Host.reduce_andi_all _ _ _ _ _ h2
  have e3 := Host.reduce_andi_all _ _ _ _ _ h3
  have e4 := Host.reduce_andi_all _ _ _ _ _ h4
  refine ⟨fun I => ?_, fun I => ?_, fun I => ?_, fun j => ?_, fun a b k => ?_⟩
  · have := IntOp.cmpi_sge.1 (e1 (ix1 I)).1
    exact this
  · have := IntOp.cmpi_slt.1 (e1 (ix1 I)).2
    exact this
  · have := IntOp.cmpi_sge.1 (e2 (ix1 I))
    exact this
  · have h5 : BitVec.ofBool (decide (max (P j) (-(P j)) < Ideal.ofBits .f32 0x7F800000#32)) = 1#1 := e3 j
    rw [inf_word] at h5
    have h6 : max (P j) (-(P j)) < ⊤ := by
      by_contra hc
      rw [decide_eq_false hc] at h5
      exact absurd h5 (by decide)
    refine ⟨fun ht => ?_, fun hb => ?_⟩
    · rw [ht] at h6; simp at h6
    · rw [hb] at h6; simp at h6
  · have key : transpose S32x32x28 [1, 0, 2] P transposes_S32x32x28_S32x32x28_1_0_2 (ix3 a b k) = P (ix3 b a k) := by
      pointwise []
    have h5 : BitVec.ofBool (decide (P (ix3 a b k) = transpose S32x32x28 [1, 0, 2] P transposes_S32x32x28_S32x32x28_1_0_2 (ix3 a b k))) = 1#1 := e4 (ix3 a b k)
    rw [key] at h5
    by_contra hc
    rw [decide_eq_false hc] at h5
    exact absurd h5 (by decide)

end Cert.Pre
-- ==== Proof.RefValue.lean ====
/- What the reference computes: one pair of residues adds what the pair gives, and the whole sum is the total. -/
module

public import proofs.«01_k».proof.Proof.RefPoint
public import proofs.«01_k».proof.Proof.Energy
public import proofs.«01_k».proof.Proof.Pre
public import Idealize.ShloMosaic.Lib.WordCmp

@[expose] public section

set_option maxRecDepth 16384

noncomputable section

open Idealize.ShloMosaic Idealize.ShloMosaic.TcCoe

namespace Cert.RefValue

open Cert.ReferenceIdeal Cert.ReferenceIdeal.Gen Cert.ReferenceIdeal.Read
open Cert.KernelIdeal.Host (num hot)
open Cert.KernelIdeal.Hist (gap)
open Cert.PairSum (pair)

/-- The size of the difference of two numbers that are not negative, computed in words, is the true one. -/
theorem apart_word (r s : BitVec 32) (hr : 0 ≤ r.toInt) (hs : 0 ≤ s.toInt) :
    (IntOp.absi (IntOp.subi r s)).toInt = |r.toInt - s.toInt| := by
  have hr' := r.toInt_lt
  have hs' := s.toInt_lt
  have h1 : (r - s).toInt = r.toInt - s.toInt := by
    rw [BitVec.toInt_sub]
    exact Int.bmod_eq_of_le (by omega) (by omega)
  show (if (r - s).msb then -(r - s) else r - s).toInt = _
  rw [BitVec.msb_eq_toInt, h1]
  by_cases h : r.toInt - s.toInt < 0
  · rw [decide_eq_true h, if_pos rfl, BitVec.toInt_neg, h1, abs_of_neg h]
    exact Int.bmod_eq_of_le (by omega) (by omega)
  · rw [decide_eq_false h, if_neg (by decide), h1, abs_of_nonneg (by omega)]

variable (C : Vec Ideal S4096x3 .f32) (T R : IVec S4096 32) (X : Vec Ideal S32x32x28 .f32) (I J : Fin 4096)

/-- The reference's test along the chain is the test on the numbers. -/
theorem chain_iff (hR : ∀ K : Fin 4096, 0 ≤ (R (ix1 K)).toInt) :
    val_main_v13 (F := Ideal) R (ix2 I J) = 1#1 ↔ 2 < |num R I - num R J| := by
  have h2 : (2#32).toInt = 2 := by decide
  rw [RefPoint.v13_at, IntOp.cmpi_sgt, apart_word _ _ (hR I) (hR J), h2]
  show _ ↔ (2 : ℝ) < |(((R (ix1 I)).toInt : ℤ) : ℝ) - (((R (ix1 J)).toInt : ℤ) : ℝ)|
  rw [← Int.cast_sub, ← Int.cast_abs]
  exact_mod_cast Iff.rfl

/-- A pair that does not count has mask zero. -/
theorem mask_zero (h : val_main_v23 (F := Ideal) T R (ix2 I J) = 0#1 ∨ ¬ gap C I J < ((Consts.cut : ℝ) : EReal)) :
    val_main_v98 (F := Ideal) C T R (ix2 I J) = 0 := by
  rw [RefPoint.v98_at]
  rcases h with h | h
  · rw [h]
    exact (congrArg (· * _) (by norm_num)).trans (zero_mul _)
  · rw [show RefPoint.far C I J = gap C I J from rfl, decide_eq_false h]
    exact (congrArg (_ * ·) (by norm_num)).trans (mul_zero _)

/-- A word other than one is zero. -/
theorem bit_zero (b : BitVec 1) (h : b ≠ 1#1) : b = 0#1 := by
  revert h; revert b; decide

/-- A pair one of whose residues has no type has mask zero. -/
theorem mask_untyped (h : (T (ix1 I)).toInt = -1 ∨ (T (ix1 J)).toInt = -1) : val_main_v23 (F := Ideal) T R (ix2 I J) = 0#1 := by
  refine bit_zero _ fun hc => ?_
  rw [RefPoint.v23_at] at hc
  obtain ⟨h1, h3⟩ := IntOp.andi_eq_one.1 hc
  obtain ⟨_, h2⟩ := IntOp.andi_eq_one.1 h1
  have key : ∀ t : BitVec 32, t.toInt = -1 → IntOp.cmpi .ne t 4294967295#32 = 0#1 := fun t ht => by
    have : t = 4294967295#32 := BitVec.eq_of_toInt_eq (ht.trans (by decide))
    rw [this]; decide
  rcases h with h | h
  · rw [key _ h] at h2; exact absurd h2 (by decide)
  · rw [key _ h] at h3; exact absurd h3 (by decide)

/-- A type is not the word of minus one. -/
theorem typed_bit (a : Fin 32) : IntOp.cmpi .ne (BitVec.ofNat 32 a.val) 4294967295#32 = 1#1 := by
  revert a; decide

/-- A near pair of residues with types has mask one. -/
theorem mask_one (hR : ∀ K : Fin 4096, 0 ≤ (R (ix1 K)).toInt) (hn : Bins.near |num R I - num R J| (gap C I J)) (a s : Fin 32)
    (ha : T (ix1 I) = BitVec.ofNat 32 a.val) (hs : T (ix1 J) = BitVec.ofNat 32 s.val) :
    val_main_v98 (F := Ideal) C T R (ix2 I J) = ((1 : ℝ) : EReal) := by
  have h23 : val_main_v23 (F := Ideal) T R (ix2 I J) = 1#1 := by
    rw [RefPoint.v23_at, (chain_iff R I J hR).2 hn.1, ha, hs, typed_bit, typed_bit]
    decide
  rw [RefPoint.v98_at, h23, show RefPoint.far C I J = gap C I J from rfl, decide_eq_true hn.2, ← EReal.coe_mul]
  show (((1 : ℕ) : ℝ) * ((1 : ℕ) : ℝ) : EReal) = _
  norm_num

/-- What one pair adds to the reference's sum. -/
theorem element (hX : Pre.Holds T R X) (P : Fin 32 → Fin 32 → Fin 28 → ℝ) (hP : ∀ a b k, X (ix3 a b k) = ((P a b k : ℝ) : EReal)) :
    val_main_v100 (F := Ideal) C T R X (ix2 I J) = ((if I < J then pair C T R P I J else 0 : ℝ) : EReal) := by
  rw [RefPoint.v100_at]
  by_cases hIJ : I < J
  · rw [(WordCmp.cmpi_slt_ofNat_eq_one_iff (w := 32) (by have := I.isLt; omega) (by have := J.isLt; omega)).2 hIJ, if_pos hIJ]
    show _ * val_main_v98 (F := Ideal) C T R (ix2 I J) = _
    by_cases hn : Bins.near |num R I - num R J| (gap C I J)
    · rcases PairSum.type_cases T (hX.lo I) (hX.hi I) with hI | ⟨a, ha⟩
      · rw [mask_zero C T R I J (.inl (mask_untyped T R I J (.inl hI))), mul_zero,
          PairSum.pair_untyped C T R P (.inl (PairSum.hot_none T hI)), EReal.coe_zero]
      rcases PairSum.type_cases T (hX.lo J) (hX.hi J) with hJ | ⟨s, hs⟩
      · rw [mask_zero C T R I J (.inl (mask_untyped T R I J (.inr hJ))), mul_zero,
          PairSum.pair_untyped C T R P (.inr (PairSum.hot_none T hJ)), EReal.coe_zero]
      rw [mask_one C T R I J hX.res hn a s ha hs, RefPoint.v42_at C I J _ hn, RefPoint.v66_at C T X I J _ hn a s ha hs,
        RefPoint.v88_at C T X I J _ hn a s ha hs, hP, hP,
        PairSum.pair_near C T R P hn a s (PairSum.hot_some T a ha) (PairSum.hot_some T s hs), ← EReal.coe_sub, ← EReal.coe_mul,
        ← EReal.coe_mul, ← EReal.coe_add, ← EReal.coe_mul, mul_one]
      rfl
    · rw [PairSum.pair_far C T R P hn, EReal.coe_zero, mask_zero, mul_zero]
      by_cases h1 : 2 < |num R I - num R J|
      · exact .inr fun h2 => hn ⟨h1, h2⟩
      · refine .inl (bit_zero _ fun hc => h1 ((chain_iff R I J hX.res).1 ?_))
        rw [RefPoint.v23_at] at hc
        exact (IntOp.andi_eq_one.1 (IntOp.andi_eq_one.1 hc).1).1
  · rw [if_neg hIJ, bit_zero _ fun hc => hIJ ((WordCmp.cmpi_slt_ofNat_eq_one_iff (w := 32)
      (by have := I.isLt; omega) (by have := J.isLt; omega)).1 hc)]
    rfl

/-- The reference's result is the total. -/
theorem result (hX : Pre.Holds T R X) (P : Fin 32 → Fin 32 → Fin 28 → ℝ) (hP : ∀ a b k, X (ix3 a b k) = ((P a b k : ℝ) : EReal)) :
    val_main_v101 (F := Ideal) C T R X = fun _ => ((KernelIdeal.Final.total C T R P : ℝ) : EReal) := by
  have hs : ∀ a b k, P a b k = P b a k := fun a b k => by
    have h := hX.sym a b k
    rw [hP, hP] at h
    exact_mod_cast h
  funext i
  rw [val_main_v101_apply, PairSum.total_eq C T R P hs, sum_idx2]
  rw [Finset.sum_congr rfl fun I _ => Finset.sum_congr rfl fun J _ => element C T R X I J hX P hP]
  rw [Finset.sum_congr rfl fun I _ => KernelIdeal.Point.coe_sum _, KernelIdeal.Point.coe_sum]
  exact (congrArg (· + _) Consts.w_zero).trans (zero_add _)

end Cert.RefValue
-- ==== Proof.Value.lean ====
/- The kernel and the reference return the same number. -/
module

public import proofs.«01_k».proof.Defs
public import proofs.«01_k».proof.Proof.RunIdeal
public import proofs.«01_k».proof.Proof.Table
public import proofs.«01_k».proof.Proof.RefValue
public import proofs.«01_k».proof.Proof.Gen.ReferenceIdeal.Read
public import proofs.«01_k».proof.Proof.Gen.ReferenceIdeal.Run
public import proofs.«01_k».proof.Proof.Gen.ReferenceIdeal
public import proofs.«01_k».proof.Proof.Gen.Pre_drawn

@[expose] public section

set_option maxRecDepth 16384

noncomputable section

open Idealize.ShloMosaic Idealize.ShloMosaic.TcCoe

namespace Cert.Value

/-- On arguments that meet the precondition, both programs end with the same total on every device and leave their
    arguments as they were. -/
theorem algebraic :
    Cert.algebraic_KernelIdeal_ReferenceIdeal_pre_drawn (hKernelIdeal := Cert.KernelIdeal.Gen.facts)
      (hReferenceIdeal := Cert.ReferenceIdeal.Gen.facts) (hPre_drawn := Cert.Pre_drawn.Gen.facts) := by
  intro m g m' g' hpre hargs
  have hX := fun c => Pre.holds _ _ _ _ (hpre c)
  let P : Dev Cert.KernelIdeal.nD → Fin 32 → Fin 32 → Fin 28 → ℝ := fun c a b k =>
    (KernelIdeal.Host.potOf m c (ix3 a b k)).toReal
  have hP : ∀ c a b k, KernelIdeal.Host.potOf m c (ix3 a b k) = ((P c a b k : ℝ) : EReal) := fun c a b k =>
    (EReal.coe_toReal ((hX c).fin _).1 ((hX c).fin _).2).symm
  refine ⟨fun c _ => ((KernelIdeal.Final.total (KernelIdeal.Host.coordsOf m c) (KernelIdeal.Host.typesOf m c)
    (KernelIdeal.Host.resOf m c) (P c) : ℝ) : EReal), ?_, ?_⟩
  · exact KernelIdeal.Final.run m g (KernelIdeal.Table.ok m) P hP
  · refine (θ_run _ _ _).mono (fun r h c => ?_) (Cert.ReferenceIdeal.Value.run (F := Ideal) m' g')
    obtain ⟨h0, h1⟩ := h c
    refine ⟨h0.trans ?_, h1⟩
    rw [Cert.ReferenceIdeal.Read.val_main_v101_eq]
    obtain ⟨a0, a1, a2, a3⟩ := hargs c
    rw [a0, a1, a2, a3]
    exact RefValue.result _ _ _ _ (hX c) (P c) (hP c)

end Cert.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn
public import proofs.«01_k».proof.Proof.Table
public import proofs.«01_k».proof.Proof.Value
public import Idealize.ShloMosaic.Adequacy
public import Idealize.ShloMosaic.Init

@[expose] public section

noncomputable section

namespace Cert.Proof

open Idealize.ShloMosaic Idealize.SL.Sem

/-- The kernel runs from every memory, keeps its arguments and leaves every semaphore at zero. -/
theorem frame_k : Cert.quiescent_Kernel (hKernel := Cert.Kernel.Gen.facts) := fun m ρ _ =>
  Cert.Kernel.Run.frame m ρ (Cert.Kernel.Table.ok m)

/-- The idealized kernel runs from every memory, keeps its arguments and leaves every semaphore at zero. -/
theorem frame_ki : Cert.quiescent_KernelIdeal (hKernelIdeal := Cert.KernelIdeal.Gen.facts) := fun m ρ _ =>
  Cert.KernelIdeal.Run.frame m ρ (Cert.KernelIdeal.Table.ok m)

/-- The idealized reference runs from every memory, keeps its arguments; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewritten constant is the named one, and its name stands for the stated rational. -/
theorem preserves : Cert.preserves_Kernel_KernelIdeal :=
  IdealRules.named_const.statement Cert.KernelIdeal.κ "inv_bin" .f32 0x3FB6DB6E#32 _ rfl

/-- All the claims of the certificate. -/
theorem claim : Cert.Claim :=
  ⟨Cert.Kernel.Gen.facts, Cert.KernelIdeal.Gen.facts, Cert.ReferenceIdeal.Gen.facts, Cert.Pre_drawn.Gen.facts,
    frame_k, frame_ki, fun m ρ _ => frame_ki m ρ trivial, frame_r, fun m ρ _ => frame_r m ρ trivial, preserves,
    Cert.Value.algebraic⟩

end Cert.Proof

end
